-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x [hPre_finite_x : Cert.Pre_finite_x.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x [hPre_finite_x : Cert.Pre_finite_x.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_x [hKernelIdeal : Cert.KernelIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_x [hReferenceIdeal : Cert.ReferenceIdeal.Facts] [hPre_finite_x : Cert.Pre_finite_x.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_finite_x [hKernelIdeal : Cert.KernelIdeal.Facts] [hReferenceIdeal : Cert.ReferenceIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_x : Cert.Pre_finite_x.Facts),
    quiescent_Kernel (hKernel := hKernel)
    ∧ quiescent_KernelIdeal (hKernelIdeal := hKernelIdeal)
    ∧ quiescent_KernelIdeal_pre_finite_x (hKernelIdeal := hKernelIdeal) (hPre_finite_x := hPre_finite_x)
    ∧ quiescent_ReferenceIdeal (hReferenceIdeal := hReferenceIdeal)
    ∧ quiescent_ReferenceIdeal_pre_finite_x (hReferenceIdeal := hReferenceIdeal) (hPre_finite_x := hPre_finite_x)
    ∧ preserves_Kernel_KernelIdeal
    ∧ algebraic_KernelIdeal_ReferenceIdeal_pre_finite_x (hKernelIdeal := hKernelIdeal) (hReferenceIdeal := hReferenceIdeal) (hPre_finite_x := hPre_finite_x)
-- ==== Pre_finite_x.lean ====
abbrev S32x3x32x32 : Shape := ⟨4, ![32, 3, 32, 32]⟩
abbrev S8x5x3x3 : Shape := ⟨4, ![8, 5, 3, 3]⟩
abbrev S8 : Shape := ⟨1, ![8]⟩
abbrev S8x5x9 : Shape := ⟨3, ![8, 5, 9]⟩
abbrev S16x16x3x3 : Shape := ⟨4, ![16, 16, 3, 3]⟩
abbrev S16 : Shape := ⟨1, ![16]⟩
abbrev S16x16x9 : Shape := ⟨3, ![16, 16, 9]⟩
abbrev S1024x32768 : Shape := ⟨2, ![1024, 32768]⟩
abbrev S1024 : Shape := ⟨1, ![1024]⟩
abbrev S10x1024 : Shape := ⟨2, ![10, 1024]⟩
abbrev S10 : Shape := ⟨1, ![10]⟩
abbrev S_ : Shape := ⟨0, ![]⟩

class Facts : Prop where
  bcast_S_S32x3x32x32 : S_.BroadcastsInDim S32x3x32x32 (![] : Fin 0 → Fin S32x3x32x32.rank)

variable [Facts]

def fn {F : FTy → Type} [FloatOps F] (main_arg0 : FVec F S32x3x32x32 .f32) (main_arg1 : FVec F S8x5x3x3 .f32) (main_arg2 : FVec F S8 .f32) (main_arg3 : FVec F S8x5x9 .f32) (main_arg4 : FVec F S8 .f32) (main_arg5 : FVec F S16x16x3x3 .f32) (main_arg6 : FVec F S16 .f32) (main_arg7 : FVec F S16x16x9 .f32) (main_arg8 : FVec F S16 .f32) (main_arg9 : FVec F S1024x32768 .f32) (main_arg10 : FVec F S1024 .f32) (main_arg11 : FVec F S10x1024 .f32) (main_arg12 : FVec F S10 .f32) : IVec S32x3x32x32 1 :=
  let main_v0 : FVec F S32x3x32x32 .f32 := Host.absf main_arg0
  let main_cst : FVec F S_ .f32 := constant S_ .f32 0x7F800000#32
  let main_v1 : FVec F S32x3x32x32 .f32 := broadcastInDim S32x3x32x32 ![] bcast_S_S32x3x32x32 main_cst
  let main_v2 : IVec S32x3x32x32 1 := cmpf .olt main_v0 main_v1
  main_v2
-- ==== Kernel.lean ====
abbrev S32x3x32x32 : Shape := ⟨4, ![32, 3, 32, 32]⟩
abbrev S8x5x3x3 : Shape := ⟨4, ![8, 5, 3, 3]⟩
abbrev S8 : Shape := ⟨1, ![8]⟩
abbrev S8x5x9 : Shape := ⟨3, ![8, 5, 9]⟩
abbrev S16x16x3x3 : Shape := ⟨4, ![16, 16, 3, 3]⟩
abbrev S16 : Shape := ⟨1, ![16]⟩
abbrev S16x16x9 : Shape := ⟨3, ![16, 16, 9]⟩
abbrev S1024x32768 : Shape := ⟨2, ![1024, 32768]⟩
abbrev S1024 : Shape := ⟨1, ![1024]⟩
abbrev S10x1024 : Shape := ⟨2, ![10, 1024]⟩
abbrev S10 : Shape := ⟨1, ![10]⟩
abbrev S32 : Shape := ⟨1, ![32]⟩
abbrev S32x32 : Shape := ⟨2, ![32, 32]⟩
abbrev S1x32x32 : Shape := ⟨3, ![1, 32, 32]⟩
abbrev S2x32x32 : Shape := ⟨3, ![2, 32, 32]⟩
abbrev S_ : Shape := ⟨0, ![]⟩
abbrev S1x2x32x32 : Shape := ⟨4, ![1, 2, 32, 32]⟩
abbrev S32x2x32x32 : Shape := ⟨4, ![32, 2, 32, 32]⟩
abbrev S32x5x32x32 : Shape := ⟨4, ![32, 5, 32, 32]⟩
abbrev S32x5x1024 : Shape := ⟨3, ![32, 5, 1024]⟩
abbrev S32x1024x5 : Shape := ⟨3, ![32, 1024, 5]⟩
abbrev S32x1024x16 : Shape := ⟨3, ![32, 1024, 16]⟩
abbrev S3x3x5x8 : Shape := ⟨4, ![3, 3, 5, 8]⟩
abbrev S9x5x8 : Shape := ⟨3, ![9, 5, 8]⟩
abbrev S9x16x8 : Shape := ⟨3, ![9, 16, 8]⟩
abbrev S3x3x16x16 : Shape := ⟨4, ![3, 3, 16, 16]⟩
abbrev S9x16x16 : Shape := ⟨3, ![9, 16, 16]⟩
abbrev S1x8 : Shape := ⟨2, ![1, 8]⟩
abbrev S1x16 : Shape := ⟨2, ![1, 16]⟩
abbrev S32x32x1024 : Shape := ⟨3, ![32, 32, 1024]⟩
abbrev S1x1024x16 : Shape := ⟨3, ![1, 1024, 16]⟩
abbrev S1x32x1024 : Shape := ⟨3, ![1, 32, 1024]⟩
abbrev S1096x16 : Shape := ⟨2, ![1096, 16]⟩
abbrev S1024x1 : Shape := ⟨2, ![1024, 1]⟩
abbrev S1024x1024 : Shape := ⟨2, ![1024, 1024]⟩
abbrev S1024x16 : Shape := ⟨2, ![1024, 16]⟩
abbrev S1024x8 : Shape := ⟨2, ![1024, 8]⟩
abbrev S1x16x8 : Shape := ⟨3, ![1, 16, 8]⟩
abbrev S16x8 : Shape := ⟨2, ![16, 8]⟩
abbrev S1x16x16 : Shape := ⟨3, ![1, 16, 16]⟩
abbrev S16x16 : Shape := ⟨2, ![16, 16]⟩
abbrev S1024x32 : Shape := ⟨2, ![1024, 32]⟩
abbrev S32x1024 : Shape := ⟨2, ![32, 1024]⟩
abbrev S32x32768 : Shape := ⟨2, ![32, 32768]⟩
abbrev S10x1 : Shape := ⟨2, ![10, 1]⟩
abbrev S10x32 : Shape := ⟨2, ![10, 32]⟩
abbrev S1024x2048 : Shape := ⟨2, ![1024, 2048]⟩
abbrev S32x2048 : Shape := ⟨2, ![32, 2048]⟩
abbrev S32x10 : Shape := ⟨2, ![32, 10]⟩

abbrev nBuf : Space → Nat
  | .hbm => 66
  | .vmem => 22
  | .smem => 0
  | _ => 0

abbrev bufTy : (tb : Table) → Fin (tcTables nBuf tb) → BufTy
  | .hbm, ⟨0, _⟩ => ⟨S32x3x32x32, .f32⟩
  | .hbm, ⟨1, _⟩ => ⟨S8x5x3x3, .f32⟩
  | .hbm, ⟨2, _⟩ => ⟨S8, .f32⟩
  | .hbm, ⟨3, _⟩ => ⟨S8x5x9, .f32⟩
  | .hbm, ⟨4, _⟩ => ⟨S8, .f32⟩
  | .hbm, ⟨5, _⟩ => ⟨S16x16x3x3, .f32⟩
  | .hbm, ⟨6, _⟩ => ⟨S16, .f32⟩
  | .hbm, ⟨7, _⟩ => ⟨S16x16x9, .f32⟩
  | .hbm, ⟨8, _⟩ => ⟨S16, .f32⟩
  | .hbm, ⟨9, _⟩ => ⟨S1024x32768, .f32⟩
  | .hbm, ⟨10, _⟩ => ⟨S1024, .f32⟩
  | .hbm, ⟨11, _⟩ => ⟨S10x1024, .f32⟩
  | .hbm, ⟨12, _⟩ => ⟨S10, .f32⟩
  | .hbm, ⟨13, _⟩ => ⟨S32, .f32⟩
  | .hbm, ⟨14, _⟩ => ⟨S32, .f32⟩
  | .hbm, ⟨15, _⟩ => ⟨S32x32, .f32⟩
  | .hbm, ⟨16, _⟩ => ⟨S32x32, .f32⟩
  | .hbm, ⟨17, _⟩ => ⟨S1x32x32, .f32⟩
  | .hbm, ⟨18, _⟩ => ⟨S1x32x32, .f32⟩
  | .hbm, ⟨19, _⟩ => ⟨S2x32x32, .f32⟩
  | .hbm, ⟨20, _⟩ => ⟨S2x32x32, .f32⟩
  | .hbm, ⟨21, _⟩ => ⟨S_, .f32⟩
  | .hbm, ⟨22, _⟩ => ⟨S32x32, .f32⟩
  | .hbm, ⟨23, _⟩ => ⟨S1x32x32, .f32⟩
  | .hbm, ⟨24, _⟩ => ⟨S1x32x32, .f32⟩
  | .hbm, ⟨25, _⟩ => ⟨S_, .f32⟩
  | .hbm, ⟨26, _⟩ => ⟨S1x32x32, .f32⟩
  | .hbm, ⟨27, _⟩ => ⟨S1x32x32, .f32⟩
  | .hbm, ⟨28, _⟩ => ⟨S2x32x32, .f32⟩
  | .hbm, ⟨29, _⟩ => ⟨S2x32x32, .f32⟩
  | .hbm, ⟨30, _⟩ => ⟨S1x2x32x32, .f32⟩
  | .hbm, ⟨31, _⟩ => ⟨S32x2x32x32, .f32⟩
  | .hbm, ⟨32, _⟩ => ⟨S32x5x32x32, .f32⟩
  | .hbm, ⟨33, _⟩ => ⟨S32x5x1024, .f32⟩
  | .hbm, ⟨34, _⟩ => ⟨S32x1024x5, .f32⟩
  | .hbm, ⟨35, _⟩ => ⟨S_, .i32⟩
  | .hbm, ⟨36, _⟩ => ⟨S_, .f32⟩
  | .hbm, ⟨37, _⟩ => ⟨S32x1024x16, .f32⟩
  | .hbm, ⟨38, _⟩ => ⟨S3x3x5x8, .f32⟩
  | .hbm, ⟨39, _⟩ => ⟨S9x5x8, .f32⟩
  | .hbm, ⟨40, _⟩ => ⟨S_, .i32⟩
  | .hbm, ⟨41, _⟩ => ⟨S_, .f32⟩
  | .hbm, ⟨42, _⟩ => ⟨S9x16x8, .f32⟩
  | .hbm, ⟨43, _⟩ => ⟨S3x3x16x16, .f32⟩
  | .hbm, ⟨44, _⟩ => ⟨S9x16x16, .f32⟩
  | .hbm, ⟨45, _⟩ => ⟨S_, .i32⟩
  | .hbm, ⟨46, _⟩ => ⟨S_, .f32⟩
  | .hbm, ⟨47, _⟩ => ⟨S9x16x16, .f32⟩
  | .hbm, ⟨48, _⟩ => ⟨S9x5x8, .f32⟩
  | .hbm, ⟨49, _⟩ => ⟨S_, .i32⟩
  | .hbm, ⟨50, _⟩ => ⟨S_, .f32⟩
  | .hbm, ⟨51, _⟩ => ⟨S9x16x8, .f32⟩
  | .hbm, ⟨52, _⟩ => ⟨S9x16x16, .f32⟩
  | .hbm, ⟨53, _⟩ => ⟨S_, .i32⟩
  | .hbm, ⟨54, _⟩ => ⟨S_, .f32⟩
  | .hbm, ⟨55, _⟩ => ⟨S9x16x16, .f32⟩
  | .hbm, ⟨56, _⟩ => ⟨S1x8, .f32⟩
  | .hbm, ⟨57, _⟩ => ⟨S1x8, .f32⟩
  | .hbm, ⟨58, _⟩ => ⟨S1x16, .f32⟩
  | .hbm, ⟨59, _⟩ => ⟨S1x16, .f32⟩
  | .hbm, ⟨60, _⟩ => ⟨S32x32x1024, .f32⟩
  | .hbm, ⟨61, _⟩ => ⟨S32x32768, .f32⟩
  | .hbm, ⟨62, _⟩ => ⟨S1024x1, .f32⟩
  | .hbm, ⟨63, _⟩ => ⟨S10x1, .f32⟩
  | .hbm, ⟨64, _⟩ => ⟨S10x32, .f32⟩
  | .hbm, ⟨65, _⟩ => ⟨S32x10, .f32⟩
  | .local _ .vmem, ⟨0, _⟩ => ⟨S1x1024x16, .f32⟩
  | .local _ .vmem, ⟨1, _⟩ => ⟨S1x1024x16, .f32⟩
  | .local _ .vmem, ⟨2, _⟩ => ⟨S9x16x8, .f32⟩
  | .local _ .vmem, ⟨3, _⟩ => ⟨S9x16x8, .f32⟩
  | .local _ .vmem, ⟨4, _⟩ => ⟨S9x16x16, .f32⟩
  | .local _ .vmem, ⟨5, _⟩ => ⟨S9x16x16, .f32⟩
  | .local _ .vmem, ⟨6, _⟩ => ⟨S1x8, .f32⟩
  | .local _ .vmem, ⟨7, _⟩ => ⟨S1x8, .f32⟩
  | .local _ .vmem, ⟨8, _⟩ => ⟨S1x16, .f32⟩
  | .local _ .vmem, ⟨9, _⟩ => ⟨S1x16, .f32⟩
  | .local _ .vmem, ⟨10, _⟩ => ⟨S1x32x1024, .f32⟩
  | .local _ .vmem, ⟨11, _⟩ => ⟨S1x32x1024, .f32⟩
  | .local _ .vmem, ⟨12, _⟩ => ⟨S1096x16, .f32⟩
  | .local _ .vmem, ⟨13, _⟩ => ⟨S1024x2048, .f32⟩
  | .local _ .vmem, ⟨14, _⟩ => ⟨S1024x2048, .f32⟩
  | .local _ .vmem, ⟨15, _⟩ => ⟨S32x2048, .f32⟩
  | .local _ .vmem, ⟨16, _⟩ => ⟨S32x2048, .f32⟩
  | .local _ .vmem, ⟨17, _⟩ => ⟨S10x1024, .f32⟩
  | .local _ .vmem, ⟨18, _⟩ => ⟨S1024x1, .f32⟩
  | .local _ .vmem, ⟨19, _⟩ => ⟨S10x1, .f32⟩
  | .local _ .vmem, ⟨20, _⟩ => ⟨S10x32, .f32⟩
  | .local _ .vmem, ⟨21, _⟩ => ⟨S1024x32, .f32⟩
  | _, _ => ⟨S32x3x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c : Ref sig .tc := ⟨.hbm, 35, rfl⟩
abbrev main_call0_v0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_1 : Ref sig .tc := ⟨.hbm, 40, rfl⟩
abbrev main_call1_v0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_2 : Ref sig .tc := ⟨.hbm, 45, rfl⟩
abbrev main_call2_v0 : Ref sig .tc := ⟨.hbm, 46, rfl⟩
abbrev main_v26 : Ref sig .tc := ⟨.hbm, 47, rfl⟩
abbrev main_v27 : Ref sig .tc := ⟨.hbm, 48, rfl⟩
abbrev main_c_3 : Ref sig .tc := ⟨.hbm, 49, rfl⟩
abbrev main_call3_v0 : Ref sig .tc := ⟨.hbm, 50, rfl⟩
abbrev main_v28 : Ref sig .tc := ⟨.hbm, 51, rfl⟩
abbrev main_v29 : Ref sig .tc := ⟨.hbm, 52, rfl⟩
abbrev main_c_4 : Ref sig .tc := ⟨.hbm, 53, rfl⟩
abbrev main_call4_v0 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x16x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S9x16x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S9x16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S9x16x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![16], ![false]⟩

def k1_cond2 (i : grid1.Coords) : BitVec 1 :=
  let arg0 : BitVec 32 := BitVec.ofNat 32 (i 0).val
  let c15_i32 : BitVec 32 := 15#32
  let v12 : BitVec 1 := Scalar.cmpi .eq arg0 c15_i32
  let v13 : BitVec 32 := Scalar.extui v12
  let c0_i32_8 : BitVec 32 := 0#32
  let v14 : BitVec 1 := Scalar.cmpi .ne v13 c0_i32_8
  v14

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S10x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S10x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]
-- ==== ReferenceIdeal.lean ====
abbrev S32x3x32x32 : Shape := ⟨4, ![32, 3, 32, 32]⟩
abbrev S8x5x3x3 : Shape := ⟨4, ![8, 5, 3, 3]⟩
abbrev S8 : Shape := ⟨1, ![8]⟩
abbrev S8x5x9 : Shape := ⟨3, ![8, 5, 9]⟩
abbrev S16x16x3x3 : Shape := ⟨4, ![16, 16, 3, 3]⟩
abbrev S16 : Shape := ⟨1, ![16]⟩
abbrev S16x16x9 : Shape := ⟨3, ![16, 16, 9]⟩
abbrev S1024x32768 : Shape := ⟨2, ![1024, 32768]⟩
abbrev S1024 : Shape := ⟨1, ![1024]⟩
abbrev S10x1024 : Shape := ⟨2, ![10, 1024]⟩
abbrev S10 : Shape := ⟨1, ![10]⟩
abbrev S32 : Shape := ⟨1, ![32]⟩
abbrev S32x32 : Shape := ⟨2, ![32, 32]⟩
abbrev S1x32x32 : Shape := ⟨3, ![1, 32, 32]⟩
abbrev S2x32x32 : Shape := ⟨3, ![2, 32, 32]⟩
abbrev S_ : Shape := ⟨0, ![]⟩
abbrev S1x2x32x32 : Shape := ⟨4, ![1, 2, 32, 32]⟩
abbrev S32x2x32x32 : Shape := ⟨4, ![32, 2, 32, 32]⟩
abbrev S32x5x32x32 : Shape := ⟨4, ![32, 5, 32, 32]⟩
abbrev S32x5x34x34 : Shape := ⟨4, ![32, 5, 34, 34]⟩
abbrev S8x5x1x1 : Shape := ⟨4, ![8, 5, 1, 1]⟩
abbrev S8x5 : Shape := ⟨2, ![8, 5]⟩
abbrev S8x32x32x32 : Shape := ⟨4, ![8, 32, 32, 32]⟩
abbrev S32x8x32x32 : Shape := ⟨4, ![32, 8, 32, 32]⟩
abbrev S1x8x1x1 : Shape := ⟨4, ![1, 8, 1, 1]⟩
abbrev S32x5x1024 : Shape := ⟨3, ![32, 5, 1024]⟩
abbrev S32x1024x5 : Shape := ⟨3, ![32, 1024, 5]⟩
abbrev S32x1024x1024 : Shape := ⟨3, ![32, 1024, 1024]⟩
abbrev S32x1024x9 : Shape := ⟨3, ![32, 1024, 9]⟩
abbrev S32x1024x9x1 : Shape := ⟨4, ![32, 1024, 9, 1]⟩
abbrev S1 : Shape := ⟨1, ![1]⟩
abbrev S1x1x1x1 : Shape := ⟨4, ![1, 1, 1, 1]⟩
abbrev S32x1024x9x5 : Shape := ⟨4, ![32, 1024, 9, 5]⟩
abbrev S32x1024x8 : Shape := ⟨3, ![32, 1024, 8]⟩
abbrev S1x1x8 : Shape := ⟨3, ![1, 1, 8]⟩
abbrev S32x8x1024 : Shape := ⟨3, ![32, 8, 1024]⟩
abbrev S32x16x32x32 : Shape := ⟨4, ![32, 16, 32, 32]⟩
abbrev S32x16x34x34 : Shape := ⟨4, ![32, 16, 34, 34]⟩
abbrev S16x16x1x1 : Shape := ⟨4, ![16, 16, 1, 1]⟩
abbrev S16x16 : Shape := ⟨2, ![16, 16]⟩
abbrev S16x32x32x32 : Shape := ⟨4, ![16, 32, 32, 32]⟩
abbrev S1x16x1x1 : Shape := ⟨4, ![1, 16, 1, 1]⟩
abbrev S32x16x1024 : Shape := ⟨3, ![32, 16, 1024]⟩
abbrev S32x1024x16 : Shape := ⟨3, ![32, 1024, 16]⟩
abbrev S32x1024x9x16 : Shape := ⟨4, ![32, 1024, 9, 16]⟩
abbrev S1x1x16 : Shape := ⟨3, ![1, 1, 16]⟩
abbrev S32x32x32x32 : Shape := ⟨4, ![32, 32, 32, 32]⟩
abbrev S32x32768 : Shape := ⟨2, ![32, 32768]⟩
abbrev S32768x1024 : Shape := ⟨2, ![32768, 1024]⟩
abbrev S32x1024 : Shape := ⟨2, ![32, 1024]⟩
abbrev S1x1024 : Shape := ⟨2, ![1, 1024]⟩
abbrev S1024x10 : Shape := ⟨2, ![1024, 10]⟩
abbrev S32x10 : Shape := ⟨2, ![32, 10]⟩
abbrev S1x10 : Shape := ⟨2, ![1, 10]⟩

abbrev nBuf : Space → Nat
  | .hbm => 247
  | .vmem => 0
  | .smem => 0
  | _ => 0

abbrev hbmTy0_0 (i : Nat) : BufTy := match i % 128 with
  | 0 => ⟨S32x3x32x32, .f32⟩
  | 1 => ⟨S8x5x3x3, .f32⟩
  | 2 => ⟨S8, .f32⟩
  | 3 => ⟨S8x5x9, .f32⟩
  | 4 => ⟨S8, .f32⟩
  | 5 => ⟨S16x16x3x3, .f32⟩
  | 6 => ⟨S16, .f32⟩
  | 7 => ⟨S16x16x9, .f32⟩
  | 8 => ⟨S16, .f32⟩
  | 9 => ⟨S1024x32768, .f32⟩
  | 10 => ⟨S1024, .f32⟩
  | 11 => ⟨S10x1024, .f32⟩
  | 12 => ⟨S10, .f32⟩
  | 13 => ⟨S32, .f32⟩
  | 14 => ⟨S32, .f32⟩
  | 15 => ⟨S32x32, .f32⟩
  | 16 => ⟨S32x32, .f32⟩
  | 17 => ⟨S1x32x32, .f32⟩
  | 18 => ⟨S1x32x32, .f32⟩
  | 19 => ⟨S2x32x32, .f32⟩
  | 20 => ⟨S2x32x32, .f32⟩
  | 21 => ⟨S_, .f32⟩
  | 22 => ⟨S32x32, .f32⟩
  | 23 => ⟨S1x32x32, .f32⟩
  | 24 => ⟨S1x32x32, .f32⟩
  | 25 => ⟨S_, .f32⟩
  | 26 => ⟨S1x32x32, .f32⟩
  | 27 => ⟨S1x32x32, .f32⟩
  | 28 => ⟨S2x32x32, .f32⟩
  | 29 => ⟨S2x32x32, .f32⟩
  | 30 => ⟨S1x2x32x32, .f32⟩
  | 31 => ⟨S32x2x32x32, .f32⟩
  | 32 => ⟨S32x5x32x32, .f32⟩
  | 33 => ⟨S_, .i32⟩
  | 34 => ⟨S_, .f32⟩
  | 35 => ⟨S32x5x34x34, .f32⟩
  | 36 => ⟨S32x5x32x32, .f32⟩
  | 37 => ⟨S8x5x1x1, .f32⟩
  | 38 => ⟨S8x5, .f32⟩
  | 39 => ⟨S8x32x32x32, .f32⟩
  | 40 => ⟨S32x8x32x32, .f32⟩
  | 41 => ⟨S_, .f32⟩
  | 42 => ⟨S32x8x32x32, .f32⟩
  | 43 => ⟨S32x8x32x32, .f32⟩
  | 44 => ⟨S32x5x32x32, .f32⟩
  | 45 => ⟨S8x5x1x1, .f32⟩
  | 46 => ⟨S8x5, .f32⟩
  | 47 => ⟨S8x32x32x32, .f32⟩
  | 48 => ⟨S32x8x32x32, .f32⟩
  | 49 => ⟨S32x8x32x32, .f32⟩
  | 50 => ⟨S32x5x32x32, .f32⟩
  | 51 => ⟨S8x5x1x1, .f32⟩
  | 52 => ⟨S8x5, .f32⟩
  | 53 => ⟨S8x32x32x32, .f32⟩
  | 54 => ⟨S32x8x32x32, .f32⟩
  | 55 => ⟨S32x8x32x32, .f32⟩
  | 56 => ⟨S32x5x32x32, .f32⟩
  | 57 => ⟨S8x5x1x1, .f32⟩
  | 58 => ⟨S8x5, .f32⟩
  | 59 => ⟨S8x32x32x32, .f32⟩
  | 60 => ⟨S32x8x32x32, .f32⟩
  | 61 => ⟨S32x8x32x32, .f32⟩
  | 62 => ⟨S32x5x32x32, .f32⟩
  | 63 => ⟨S8x5x1x1, .f32⟩
  | 64 => ⟨S8x5, .f32⟩
  | 65 => ⟨S8x32x32x32, .f32⟩
  | 66 => ⟨S32x8x32x32, .f32⟩
  | 67 => ⟨S32x8x32x32, .f32⟩
  | 68 => ⟨S32x5x32x32, .f32⟩
  | 69 => ⟨S8x5x1x1, .f32⟩
  | 70 => ⟨S8x5, .f32⟩
  | 71 => ⟨S8x32x32x32, .f32⟩
  | 72 => ⟨S32x8x32x32, .f32⟩
  | 73 => ⟨S32x8x32x32, .f32⟩
  | 74 => ⟨S32x5x32x32, .f32⟩
  | 75 => ⟨S8x5x1x1, .f32⟩
  | 76 => ⟨S8x5, .f32⟩
  | 77 => ⟨S8x32x32x32, .f32⟩
  | 78 => ⟨S32x8x32x32, .f32⟩
  | 79 => ⟨S32x8x32x32, .f32⟩
  | 80 => ⟨S32x5x32x32, .f32⟩
  | 81 => ⟨S8x5x1x1, .f32⟩
  | 82 => ⟨S8x5, .f32⟩
  | 83 => ⟨S8x32x32x32, .f32⟩
  | 84 => ⟨S32x8x32x32, .f32⟩
  | 85 => ⟨S32x8x32x32, .f32⟩
  | 86 => ⟨S32x5x32x32, .f32⟩
  | 87 => ⟨S8x5x1x1, .f32⟩
  | 88 => ⟨S8x5, .f32⟩
  | 89 => ⟨S8x32x32x32, .f32⟩
  | 90 => ⟨S32x8x32x32, .f32⟩
  | 91 => ⟨S32x8x32x32, .f32⟩
  | 92 => ⟨S1x8x1x1, .f32⟩
  | 93 => ⟨S32x8x32x32, .f32⟩
  | 94 => ⟨S32x8x32x32, .f32⟩
  | 95 => ⟨S32x5x1024, .f32⟩
  | 96 => ⟨S32x1024x5, .f32⟩
  | 97 => ⟨S32x1024x1024, .f32⟩
  | 98 => ⟨S32x1024x9, .f32⟩
  | 99 => ⟨S32x1024x9, .i32⟩
  | 100 => ⟨S_, .i32⟩
  | 101 => ⟨S32x1024x9, .i32⟩
  | 102 => ⟨S32x1024x9, .i1⟩
  | 103 => ⟨S_, .i32⟩
  | 104 => ⟨S32x1024x9, .i32⟩
  | 105 => ⟨S32x1024x9, .i32⟩
  | 106 => ⟨S32x1024x9, .i32⟩
  | 107 => ⟨S32x1024x9x1, .i32⟩
  | 108 => ⟨S1, .i32⟩
  | 109 => ⟨S_, .i32⟩
  | 110 => ⟨S32x1024x9x1, .i32⟩
  | 111 => ⟨S32x1024x9x1, .i1⟩
  | 112 => ⟨S1x1x1x1, .i32⟩
  | 113 => ⟨S32x1024x9x1, .i32⟩
  | 114 => ⟨S32x1024x9x1, .i1⟩
  | 115 => ⟨S32x1024x9x1, .i1⟩
  | 116 => ⟨S_, .i1⟩
  | 117 => ⟨S32x1024x9, .i1⟩
  | 118 => ⟨S32x1024x9x5, .f32⟩
  | 119 => ⟨S32x1024x9x5, .i1⟩
  | 120 => ⟨S_, .f32⟩
  | 121 => ⟨S32x1024x9x5, .f32⟩
  | 122 => ⟨S32x1024x9x5, .f32⟩
  | 123 => ⟨S32x1024x8, .f32⟩
  | 124 => ⟨S1x1x8, .f32⟩
  | 125 => ⟨S32x1024x8, .f32⟩
  | 126 => ⟨S32x1024x8, .f32⟩
  | 127 => ⟨S32x8x1024, .f32⟩
  | _ => ⟨S32x3x32x32, .f32⟩

abbrev hbmTy0_1 (i : Nat) : BufTy := match i % 128 with
  | 0 => ⟨S32x8x32x32, .f32⟩
  | 1 => ⟨S32x16x32x32, .f32⟩
  | 2 => ⟨S_, .f32⟩
  | 3 => ⟨S32x16x32x32, .f32⟩
  | 4 => ⟨S32x16x32x32, .f32⟩
  | 5 => ⟨S_, .i32⟩
  | 6 => ⟨S_, .f32⟩
  | 7 => ⟨S32x16x34x34, .f32⟩
  | 8 => ⟨S32x16x32x32, .f32⟩
  | 9 => ⟨S16x16x1x1, .f32⟩
  | 10 => ⟨S16x16, .f32⟩
  | 11 => ⟨S16x32x32x32, .f32⟩
  | 12 => ⟨S32x16x32x32, .f32⟩
  | 13 => ⟨S_, .f32⟩
  | 14 => ⟨S32x16x32x32, .f32⟩
  | 15 => ⟨S32x16x32x32, .f32⟩
  | 16 => ⟨S32x16x32x32, .f32⟩
  | 17 => ⟨S16x16x1x1, .f32⟩
  | 18 => ⟨S16x16, .f32⟩
  | 19 => ⟨S16x32x32x32, .f32⟩
  | 20 => ⟨S32x16x32x32, .f32⟩
  | 21 => ⟨S32x16x32x32, .f32⟩
  | 22 => ⟨S32x16x32x32, .f32⟩
  | 23 => ⟨S16x16x1x1, .f32⟩
  | 24 => ⟨S16x16, .f32⟩
  | 25 => ⟨S16x32x32x32, .f32⟩
  | 26 => ⟨S32x16x32x32, .f32⟩
  | 27 => ⟨S32x16x32x32, .f32⟩
  | 28 => ⟨S32x16x32x32, .f32⟩
  | 29 => ⟨S16x16x1x1, .f32⟩
  | 30 => ⟨S16x16, .f32⟩
  | 31 => ⟨S16x32x32x32, .f32⟩
  | 32 => ⟨S32x16x32x32, .f32⟩
  | 33 => ⟨S32x16x32x32, .f32⟩
  | 34 => ⟨S32x16x32x32, .f32⟩
  | 35 => ⟨S16x16x1x1, .f32⟩
  | 36 => ⟨S16x16, .f32⟩
  | 37 => ⟨S16x32x32x32, .f32⟩
  | 38 => ⟨S32x16x32x32, .f32⟩
  | 39 => ⟨S32x16x32x32, .f32⟩
  | 40 => ⟨S32x16x32x32, .f32⟩
  | 41 => ⟨S16x16x1x1, .f32⟩
  | 42 => ⟨S16x16, .f32⟩
  | 43 => ⟨S16x32x32x32, .f32⟩
  | 44 => ⟨S32x16x32x32, .f32⟩
  | 45 => ⟨S32x16x32x32, .f32⟩
  | 46 => ⟨S32x16x32x32, .f32⟩
  | 47 => ⟨S16x16x1x1, .f32⟩
  | 48 => ⟨S16x16, .f32⟩
  | 49 => ⟨S16x32x32x32, .f32⟩
  | 50 => ⟨S32x16x32x32, .f32⟩
  | 51 => ⟨S32x16x32x32, .f32⟩
  | 52 => ⟨S32x16x32x32, .f32⟩
  | 53 => ⟨S16x16x1x1, .f32⟩
  | 54 => ⟨S16x16, .f32⟩
  | 55 => ⟨S16x32x32x32, .f32⟩
  | 56 => ⟨S32x16x32x32, .f32⟩
  | 57 => ⟨S32x16x32x32, .f32⟩
  | 58 => ⟨S32x16x32x32, .f32⟩
  | 59 => ⟨S16x16x1x1, .f32⟩
  | 60 => ⟨S16x16, .f32⟩
  | 61 => ⟨S16x32x32x32, .f32⟩
  | 62 => ⟨S32x16x32x32, .f32⟩
  | 63 => ⟨S32x16x32x32, .f32⟩
  | 64 => ⟨S1x16x1x1, .f32⟩
  | 65 => ⟨S32x16x32x32, .f32⟩
  | 66 => ⟨S32x16x32x32, .f32⟩
  | 67 => ⟨S32x16x1024, .f32⟩
  | 68 => ⟨S32x1024x16, .f32⟩
  | 69 => ⟨S32x1024x1024, .f32⟩
  | 70 => ⟨S32x1024x9, .f32⟩
  | 71 => ⟨S32x1024x9, .i32⟩
  | 72 => ⟨S_, .i32⟩
  | 73 => ⟨S32x1024x9, .i32⟩
  | 74 => ⟨S32x1024x9, .i1⟩
  | 75 => ⟨S_, .i32⟩
  | 76 => ⟨S32x1024x9, .i32⟩
  | 77 => ⟨S32x1024x9, .i32⟩
  | 78 => ⟨S32x1024x9, .i32⟩
  | 79 => ⟨S32x1024x9x1, .i32⟩
  | 80 => ⟨S1, .i32⟩
  | 81 => ⟨S_, .i32⟩
  | 82 => ⟨S32x1024x9x1, .i32⟩
  | 83 => ⟨S32x1024x9x1, .i1⟩
  | 84 => ⟨S1x1x1x1, .i32⟩
  | 85 => ⟨S32x1024x9x1, .i32⟩
  | 86 => ⟨S32x1024x9x1, .i1⟩
  | 87 => ⟨S32x1024x9x1, .i1⟩
  | 88 => ⟨S_, .i1⟩
  | 89 => ⟨S32x1024x9, .i1⟩
  | 90 => ⟨S32x1024x9x16, .f32⟩
  | 91 => ⟨S32x1024x9x16, .i1⟩
  | 92 => ⟨S_, .f32⟩
  | 93 => ⟨S32x1024x9x16, .f32⟩
  | 94 => ⟨S32x1024x9x16, .f32⟩
  | 95 => ⟨S32x1024x16, .f32⟩
  | 96 => ⟨S1x1x16, .f32⟩
  | 97 => ⟨S32x1024x16, .f32⟩
  | 98 => ⟨S32x1024x16, .f32⟩
  | 99 => ⟨S32x16x1024, .f32⟩
  | 100 => ⟨S32x16x32x32, .f32⟩
  | 101 => ⟨S32x32x32x32, .f32⟩
  | 102 => ⟨S_, .f32⟩
  | 103 => ⟨S32x32x32x32, .f32⟩
  | 104 => ⟨S32x32x32x32, .f32⟩
  | 105 => ⟨S32x32768, .f32⟩
  | 106 => ⟨S32768x1024, .f32⟩
  | 107 => ⟨S32x1024, .f32⟩
  | 108 => ⟨S1x1024, .f32⟩
  | 109 => ⟨S32x1024, .f32⟩
  | 110 => ⟨S32x1024, .f32⟩
  | 111 => ⟨S_, .f32⟩
  | 112 => ⟨S32x1024, .f32⟩
  | 113 => ⟨S32x1024, .f32⟩
  | 114 => ⟨S1024x10, .f32⟩
  | 115 => ⟨S32x10, .f32⟩
  | 116 => ⟨S1x10, .f32⟩
  | 117 => ⟨S32x10, .f32⟩
  | 118 => ⟨S32x10, .f32⟩
  | _ => ⟨S32x3x32x32, .f32⟩

abbrev hbmTy (i : Nat) : BufTy := match i / 128 with
  | 0 => hbmTy0_0 i
  | 1 => hbmTy0_1 i
  | _ => ⟨S32x3x32x32, .f32⟩

abbrev bufTy : (tb : Table) → Fin (tcTables nBuf tb) → BufTy
  | .hbm, ⟨i, _⟩ => hbmTy i
  | _, _ => ⟨S32x3x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_call0_v0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_values : Ref sig .tc := ⟨.hbm, 98, rfl⟩
abbrev main_indices : Ref sig .tc := ⟨.hbm, 99, rfl⟩
abbrev main_call1_c : Ref sig .tc := ⟨.hbm, 100, rfl⟩
abbrev main_call1_v0 : Ref sig .tc := ⟨.hbm, 101, rfl⟩
abbrev main_call1_v1 : Ref sig .tc := ⟨.hbm, 102, rfl⟩
abbrev main_call1_c_0 : Ref sig .tc := ⟨.hbm, 103, rfl⟩
abbrev main_call1_v2 : Ref sig .tc := ⟨.hbm, 104, rfl⟩
abbrev main_call1_v3 : Ref sig .tc := ⟨.hbm, 105, rfl⟩
abbrev main_call1_v4 : Ref sig .tc := ⟨.hbm, 106, rfl⟩
abbrev main_call1_v5 : Ref sig .tc := ⟨.hbm, 107, rfl⟩
abbrev main_call1_c_1 : Ref sig .tc := ⟨.hbm, 108, rfl⟩
abbrev main_call1_c_2 : Ref sig .tc := ⟨.hbm, 109, rfl⟩
abbrev main_call1_v6 : Ref sig .tc := ⟨.hbm, 110, rfl⟩
abbrev main_call1_v7 : Ref sig .tc := ⟨.hbm, 111, rfl⟩
abbrev main_call1_v8 : Ref sig .tc := ⟨.hbm, 112, rfl⟩
abbrev main_call1_v9 : Ref sig .tc := ⟨.hbm, 113, rfl⟩
abbrev main_call1_v10 : Ref sig .tc := ⟨.hbm, 114, rfl⟩
abbrev main_call1_v11 : Ref sig .tc := ⟨.hbm, 115, rfl⟩
abbrev main_call1_c_3 : Ref sig .tc := ⟨.hbm, 116, rfl⟩
abbrev main_call1_v12 : Ref sig .tc := ⟨.hbm, 117, rfl⟩
abbrev main_call1_v13 : Ref sig .tc := ⟨.hbm, 118, rfl⟩
abbrev main_call1_v14 : Ref sig .tc := ⟨.hbm, 119, rfl⟩
abbrev main_call1_cst : Ref sig .tc := ⟨.hbm, 120, rfl⟩
abbrev main_call1_v15 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_call2_cst : Ref sig .tc := ⟨.hbm, 130, rfl⟩
abbrev main_call2_v0 : Ref sig .tc := ⟨.hbm, 131, rfl⟩
abbrev main_v88 : Ref sig .tc := ⟨.hbm, 132, rfl⟩
abbrev main_c_2 : Ref sig .tc := ⟨.hbm, 133, rfl⟩
abbrev main_call3_v0 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_cst_3 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_values_4 : Ref sig .tc := ⟨.hbm, 198, rfl⟩
abbrev main_indices_5 : Ref sig .tc := ⟨.hbm, 199, rfl⟩
abbrev main_call4_c : Ref sig .tc := ⟨.hbm, 200, rfl⟩
abbrev main_call4_v0 : Ref sig .tc := ⟨.hbm, 201, rfl⟩
abbrev main_call4_v1 : Ref sig .tc := ⟨.hbm, 202, rfl⟩
abbrev main_call4_c_0 : Ref sig .tc := ⟨.hbm, 203, rfl⟩
abbrev main_call4_v2 : Ref sig .tc := ⟨.hbm, 204, rfl⟩
abbrev main_call4_v3 : Ref sig .tc := ⟨.hbm, 205, rfl⟩
abbrev main_call4_v4 : Ref sig .tc := ⟨.hbm, 206, rfl⟩
abbrev main_call4_v5 : Ref sig .tc := ⟨.hbm, 207, rfl⟩
abbrev main_call4_c_1 : Ref sig .tc := ⟨.hbm, 208, rfl⟩
abbrev main_call4_c_2 : Ref sig .tc := ⟨.hbm, 209, rfl⟩
abbrev main_call4_v6 : Ref sig .tc := ⟨.hbm, 210, rfl⟩
abbrev main_call4_v7 : Ref sig .tc := ⟨.hbm, 211, rfl⟩
abbrev main_call4_v8 : Ref sig .tc := ⟨.hbm, 212, rfl⟩
abbrev main_call4_v9 : Ref sig .tc := ⟨.hbm, 213, rfl⟩
abbrev main_call4_v10 : Ref sig .tc := ⟨.hbm, 214, rfl⟩
abbrev main_call4_v11 : Ref sig .tc := ⟨.hbm, 215, rfl⟩
abbrev main_call4_c_3 : Ref sig .tc := ⟨.hbm, 216, rfl⟩
abbrev main_call4_v12 : Ref sig .tc := ⟨.hbm, 217, rfl⟩
abbrev main_call4_v13 : Ref sig .tc := ⟨.hbm, 218, rfl⟩
abbrev main_call4_v14 : Ref sig .tc := ⟨.hbm, 219, rfl⟩
abbrev main_call4_cst : Ref sig .tc := ⟨.hbm, 220, rfl⟩
abbrev main_call4_v15 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_call5_cst : Ref sig .tc := ⟨.hbm, 230, rfl⟩
abbrev main_call5_v0 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_call6_cst : Ref sig .tc := ⟨.hbm, 239, rfl⟩
abbrev main_call6_v0 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_v171 : Ref sig .tc := ⟨.hbm, 246, rfl⟩

abbrev nD : Nat := 1
abbrev τ : Topo := Topo.v7x

variable {F : FTy → Type} [FloatOps F]
-- ==== Proof.FeatI.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

/-! The feature call: what its kernel leaves in its output buffer, and that its body meets the obligation of
the pipeline at every grid point, from any contents of the buffers when the call is entered. -/

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at grid point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

abbrev VO0_9 : View sig .tc .vmem S1x32x1024 .f32 := (Memref.whole cc0_stg9_0 : Memref sig .tc .vmem S1x32x1024 .f32).view
abbrev ms0_0 (t : Fin cfg0.N) : Memref sig .tc .vmem S1x1024x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S9x16x8 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S9x16x8 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S9x16x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S9x16x16 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x16 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x16 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x32x1024 .f32 := win0_9.stage (cfg0.slots t 9)
abbrev hs0_9 (t : Fin cfg0.N) : (ms0_9 t).IsWhole := hstage0_9 ((cfg0.slots t 9).cast nbuf0_9)
abbrev scM0_0 : Memref sig .tc .vmem S1096x16 .f32 := Memref.whole cc0_scratch0

def G0 (c : Dev nD) : sProp 𝕄 :=
  iprop(Pipeline.scopedRestBut (Ix := Unit) (Name := ℕ) (U := UR sig nD τ) (Lvl := ℕ) (Val := Elt F) spec0 c [cc0_scratch0] ∗ (∃ r, prngReg c r))

theorem PhiA0_eq (c : Dev nD) :
    (Pipeline.ΦA spec0 c : sProp 𝕄)
      = iprop(iprop((∃ d, owns (c : Thread nD τ) scM0_0 fullShare d)) ∗ G0 c) := by
  unfold Pipeline.ΦA G0
  rw [Pipeline.scopedRest_split_of_list spec0 c [cc0_scratch0] (by simp only [List.Forall]; decide) (by decide)]
  simp only [scM0_0, owns_whole]
  exact equiv_iff.mp ⟨Idealize.SL.BI.sep_assoc, Idealize.SL.BI.sep_assoc'⟩

set_option maxHeartbeats 1000000 in
/-- The feature kernel's body on whole staging buffers: from the inputs at `x0 … x8` it runs to its end, the inputs
    unchanged, the output buffer holding the pieces the run stores. -/
noncomputable def kernelRun0_A (c : Dev nD) (i : grid0.Coords) (arg1 : Memref sig .tc .vmem S1x1024x16 .f32) (harg1 : arg1.IsWhole) (arg2 : Memref sig .tc .vmem S9x16x8 .f32) (harg2 : arg2.IsWhole) (arg3 : Memref sig .tc .vmem S9x16x8 .f32) (harg3 : arg3.IsWhole) (arg4 : Memref sig .tc .vmem S9x16x16 .f32) (harg4 : arg4.IsWhole) (arg5 : Memref sig .tc .vmem S9x16x16 .f32) (harg5 : arg5.IsWhole) (arg6 : Memref sig .tc .vmem S1x8 .f32) (harg6 : arg6.IsWhole) (arg7 : Memref sig .tc .vmem S1x8 .f32) (harg7 : arg7.IsWhole) (arg8 : Memref sig .tc .vmem S1x16 .f32) (harg8 : arg8.IsWhole) (arg9 : Memref sig .tc .vmem S1x16 .f32) (harg9 : arg9.IsWhole) (arg10 : Memref sig .tc .vmem S1x32x1024 .f32) (harg10 : arg10.IsWhole) (arg11 : Memref sig .tc .vmem S1096x16 .f32) (harg11 : arg11.IsWhole)
    (x0 : Vec F S1x1024x16 .f32) (x1 : Vec F S9x16x8 .f32) (x2 : Vec F S9x16x8 .f32) (x3 : Vec F S9x16x16 .f32) (x4 : Vec F S9x16x16 .f32) (x5 : Vec F S1x8 .f32) (x6 : Vec F S1x8 .f32) (x7 : Vec F S1x16 .f32) (x8 : Vec F S1x16 .f32) :
    Σ' (L9 : List (View.Piece (Elt F) S1x32x1024 .f32)), { LT0 : List (View.Piece (Elt F) S1096x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LT0)) -∗ K ⟨⟩))
          ⊢ wp frame (wpE (defs₀ (F := F)) Variants.none c none) E (cc0__feature_body i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__feature_body_eq_skeleton]; unfold cc0__feature_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    iexists _; iexact HS0

/-- The stored pieces cover the output buffer. -/
theorem cover0_A_9 (c : Dev nD) (i : grid0.Coords) (arg1 : Memref sig .tc .vmem S1x1024x16 .f32) (harg1 : arg1.IsWhole) (arg2 : Memref sig .tc .vmem S9x16x8 .f32) (harg2 : arg2.IsWhole) (arg3 : Memref sig .tc .vmem S9x16x8 .f32) (harg3 : arg3.IsWhole) (arg4 : Memref sig .tc .vmem S9x16x16 .f32) (harg4 : arg4.IsWhole) (arg5 : Memref sig .tc .vmem S9x16x16 .f32) (harg5 : arg5.IsWhole) (arg6 : Memref sig .tc .vmem S1x8 .f32) (harg6 : arg6.IsWhole) (arg7 : Memref sig .tc .vmem S1x8 .f32) (harg7 : arg7.IsWhole) (arg8 : Memref sig .tc .vmem S1x16 .f32) (harg8 : arg8.IsWhole) (arg9 : Memref sig .tc .vmem S1x16 .f32) (harg9 : arg9.IsWhole) (arg10 : Memref sig .tc .vmem S1x32x1024 .f32) (harg10 : arg10.IsWhole) (arg11 : Memref sig .tc .vmem S1096x16 .f32) (harg11 : arg11.IsWhole)
    (x0 : Vec F S1x1024x16 .f32) (x1 : Vec F S9x16x8 .f32) (x2 : Vec F S9x16x8 .f32) (x3 : Vec F S9x16x16 .f32) (x4 : Vec F S9x16x16 .f32) (x5 : Vec F S1x8 .f32) (x6 : Vec F S1x8 .f32) (x7 : Vec F S1x16 .f32) (x8 : Vec F S1x16 .f32) (y : S1x32x1024.Idx) :
    ∃ pc ∈ (kernelRun0_A c i arg1 harg1 arg2 harg2 arg3 harg3 arg4 harg4 arg5 harg5 arg6 harg6 arg7 harg7 arg8 harg8 arg9 harg9 arg10 harg10 arg11 harg11 x0 x1 x2 x3 x4 x5 x6 x7 x8).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 x0 x1 x2 x3 x4 x5 x6 x7 x8).1 S1x32x1024.size (by sl_kernel_rfl) y

/-- What the feature kernel leaves in its output buffer. -/
def out0_A_9 (c : Dev nD) (i : grid0.Coords) (arg1 : Memref sig .tc .vmem S1x1024x16 .f32) (harg1 : arg1.IsWhole) (arg2 : Memref sig .tc .vmem S9x16x8 .f32) (harg2 : arg2.IsWhole) (arg3 : Memref sig .tc .vmem S9x16x8 .f32) (harg3 : arg3.IsWhole) (arg4 : Memref sig .tc .vmem S9x16x16 .f32) (harg4 : arg4.IsWhole) (arg5 : Memref sig .tc .vmem S9x16x16 .f32) (harg5 : arg5.IsWhole) (arg6 : Memref sig .tc .vmem S1x8 .f32) (harg6 : arg6.IsWhole) (arg7 : Memref sig .tc .vmem S1x8 .f32) (harg7 : arg7.IsWhole) (arg8 : Memref sig .tc .vmem S1x16 .f32) (harg8 : arg8.IsWhole) (arg9 : Memref sig .tc .vmem S1x16 .f32) (harg9 : arg9.IsWhole) (arg10 : Memref sig .tc .vmem S1x32x1024 .f32) (harg10 : arg10.IsWhole) (arg11 : Memref sig .tc .vmem S1096x16 .f32) (harg11 : arg11.IsWhole)
    (x0 : Vec F S1x1024x16 .f32) (x1 : Vec F S9x16x8 .f32) (x2 : Vec F S9x16x8 .f32) (x3 : Vec F S9x16x16 .f32) (x4 : Vec F S9x16x16 .f32) (x5 : Vec F S1x8 .f32) (x6 : Vec F S1x8 .f32) (x7 : Vec F S1x16 .f32) (x8 : Vec F S1x16 .f32) : Vec F S1x32x1024 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 x0 x1 x2 x3 x4 x5 x6 x7 x8).1)

/-- What the output buffer holds after grid point `t`. -/
def outsAt0 (c : Dev nD) (t : Fin cfg0.N) : Vec F S1x32x1024 .f32 :=
  out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t)

/-- The proof data of the feature call: arrays as found, inputs at their blocks, the output at `outsAt0`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => (outsAt0 V c t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = (outsAt0 V c t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t))

set_option maxHeartbeats 800000 in
/-- The body at any grid point of the feature call. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  rw [show (dat0 V c).Φ t.castSucc = Pipeline.ΦA spec0 c from rfl, PhiA0_eq]
  unfold outsAt0
  unfold out0_A_9
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  iintro ⟨H0, H1, H2, H3, H4, H5, H6, H7, H8, ⟨%e9, H9⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (cover0_A_9 c _ _ _ _ _ _ _ _ _ _ _ _ _ _ _ _ _ _ _ _ _ _ _ _ _ _ _ _ _ _ _ _)

theorem defs₀_row0 (t : Fin cfg0.N) :
    defs₀ (F := F) .tc cfg0.body (cfg0.bodyArgs t (cfg0.slots t)) = bodyAt0 t := by
  unfold defs₀; rw [Defs.onTc_tc]

/-- The feature call meets the pipeline's obligation. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Net

end
-- ==== Proof.FcI.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

/-! The classifier call: what its kernel leaves in the carried accumulator and in its output buffer at each grid
point, and that its body meets the obligation of the pipeline, from any contents of the buffers at entry. -/

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 16 = 0 :=
  (fun t => by
    have ht : t.val < 16 := Nat.lt_of_lt_of_eq t.isLt N_1
    have e0 : (grid1.coords t 0).val = t.val / 1 % 16 := Pipeline.Grid.coords_val t 0 (by decide) rfl
    simp only [cond1_0, e0]
    word_cmp
   : ∀ t : Fin grid1.N, cond1_0 (grid1.coords t) ↔ t.val % 16 = 0)

abbrev cond1_1 (i : grid1.Coords) : Prop := k1_cond2 i = 1#1
theorem hcond1_1 : ∀ t : Fin cfg1.N, cond1_1 (grid1.coords t) ↔ t.val % 16 = 15 :=
  (fun t => by
    have ht : t.val < 16 := Nat.lt_of_lt_of_eq t.isLt N_1
    have e0 : (grid1.coords t 0).val = t.val / 1 % 16 := Pipeline.Grid.coords_val t 0 (by decide) rfl
    simp only [cond1_1, k1_cond2, e0]
    word_cmp
   : ∀ t : Fin grid1.N, cond1_1 (grid1.coords t) ↔ t.val % 16 = 15)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
theorem liveAt1_5_C : ∀ t : Fin cfg1.N, ¬cond1_0 (grid1.coords t) → cond1_1 (grid1.coords t) → cfg1.idle 5 (grid1.coords t) = false := by decide +kernel

abbrev VO1_5 : View sig .tc .vmem S10x32 .f32 := (Memref.whole cc1_stg5_0 : Memref sig .tc .vmem S10x32 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S10x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S10x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S10x32 .f32 := win1_5.stage (cfg1.slots t 5)
abbrev hs1_5 (t : Fin cfg1.N) : (ms1_5 t).IsWhole := hstage1_5 ((cfg1.slots t 5).cast nbuf1_5)
abbrev scM1_0 : Memref sig .tc .vmem S1024x32 .f32 := Memref.whole cc1_scratch0
abbrev VS1_0 : View sig .tc .vmem S1024x32 .f32 := scM1_0.view

/-- The scoped buffers beside the call's scratch, and the generator register. -/
def G1 (c : Dev nD) : sProp 𝕄 :=
  iprop(Pipeline.scopedRestBut (Ix := Unit) (Name := ℕ) (U := UR sig nD τ) (Lvl := ℕ) (Val := Elt F) spec1 c [cc1_scratch0] ∗ (∃ r, prngReg c r))

/-- What a region's entry hands the body, with the call's scratch split out. -/
theorem PhiA1_eq (c : Dev nD) :
    (Pipeline.ΦA spec1 c : sProp 𝕄)
      = iprop(iprop((∃ d, owns (c : Thread nD τ) scM1_0 fullShare d)) ∗ G1 c) := by
  unfold Pipeline.ΦA G1
  rw [Pipeline.scopedRest_split_of_list spec1 c [cc1_scratch0] (by simp only [List.Forall]; decide) (by decide)]
  simp only [scM1_0, owns_whole]
  exact equiv_iff.mp ⟨Idealize.SL.BI.sep_assoc, Idealize.SL.BI.sep_assoc'⟩

set_option maxHeartbeats 1000000 in
/-- The classifier body at the first grid point: the accumulator is cleared, then added to. -/
noncomputable def kernelRun1_A (c : Dev nD) (i : grid1.Coords) (arg1 : Memref sig .tc .vmem S1024x2048 .f32) (harg1 : arg1.IsWhole) (arg2 : Memref sig .tc .vmem S32x2048 .f32) (harg2 : arg2.IsWhole) (arg3 : Memref sig .tc .vmem S10x1024 .f32) (harg3 : arg3.IsWhole) (arg4 : Memref sig .tc .vmem S1024x1 .f32) (harg4 : arg4.IsWhole) (arg5 : Memref sig .tc .vmem S10x1 .f32) (harg5 : arg5.IsWhole) (arg6 : Memref sig .tc .vmem S10x32 .f32) (harg6 : arg6.IsWhole) (arg7 : Memref sig .tc .vmem S1024x32 .f32) (harg7 : arg7.IsWhole) (hc0 : cond1_0 i) (hc1 : ¬cond1_1 i)
    (x0 : Vec F S1024x2048 .f32) (x1 : Vec F S32x2048 .f32) (x2 : Vec F S10x1024 .f32) (x3 : Vec F S1024x1 .f32) (x4 : Vec F S10x1 .f32) :
    Σ' (L5 : List (View.Piece (Elt F) S10x32 .f32)), { LS0 : List (View.Piece (Elt F) S1024x32 .f32) //
      ∀ (xi5 : Vec F S10x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc1__fc_body i arg1 harg1 arg2 harg2 arg3 harg3 arg4 harg4 arg5 harg5 arg6 harg6 arg7 harg7) K } := by
  refine ⟨[], ?_, fun xi5 E K => ?run⟩
  case run =>
    simp only [cc1__fc_body_eq_skeleton]; unfold cc1__fc_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 1000000 in
/-- The classifier body at a middle grid point: the accumulator is added to. -/
noncomputable def kernelRun1_B (c : Dev nD) (i : grid1.Coords) (arg1 : Memref sig .tc .vmem S1024x2048 .f32) (harg1 : arg1.IsWhole) (arg2 : Memref sig .tc .vmem S32x2048 .f32) (harg2 : arg2.IsWhole) (arg3 : Memref sig .tc .vmem S10x1024 .f32) (harg3 : arg3.IsWhole) (arg4 : Memref sig .tc .vmem S1024x1 .f32) (harg4 : arg4.IsWhole) (arg5 : Memref sig .tc .vmem S10x1 .f32) (harg5 : arg5.IsWhole) (arg6 : Memref sig .tc .vmem S10x32 .f32) (harg6 : arg6.IsWhole) (arg7 : Memref sig .tc .vmem S1024x32 .f32) (harg7 : arg7.IsWhole) (hc0 : ¬cond1_0 i) (hc1 : ¬cond1_1 i)
    (x0 : Vec F S1024x2048 .f32) (x1 : Vec F S32x2048 .f32) (x2 : Vec F S10x1024 .f32) (x3 : Vec F S1024x1 .f32) (x4 : Vec F S10x1 .f32) (xs0 : Vec F S1024x32 .f32) :
    Σ' (L5 : List (View.Piece (Elt F) S10x32 .f32)), { LS0 : List (View.Piece (Elt F) S1024x32 .f32) //
      ∀ (xi5 : Vec F S10x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc1__fc_body i arg1 harg1 arg2 harg2 arg3 harg3 arg4 harg4 arg5 harg5 arg6 harg6 arg7 harg7) K } := by
  refine ⟨[], ?_, fun xi5 E K => ?run⟩
  case run =>
    simp only [cc1__fc_body_eq_skeleton]; unfold cc1__fc_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 1000000 in
/-- The classifier body at the last grid point: the accumulator is added to and the output stored. -/
noncomputable def kernelRun1_C (c : Dev nD) (i : grid1.Coords) (arg1 : Memref sig .tc .vmem S1024x2048 .f32) (harg1 : arg1.IsWhole) (arg2 : Memref sig .tc .vmem S32x2048 .f32) (harg2 : arg2.IsWhole) (arg3 : Memref sig .tc .vmem S10x1024 .f32) (harg3 : arg3.IsWhole) (arg4 : Memref sig .tc .vmem S1024x1 .f32) (harg4 : arg4.IsWhole) (arg5 : Memref sig .tc .vmem S10x1 .f32) (harg5 : arg5.IsWhole) (arg6 : Memref sig .tc .vmem S10x32 .f32) (harg6 : arg6.IsWhole) (arg7 : Memref sig .tc .vmem S1024x32 .f32) (harg7 : arg7.IsWhole) (hc0 : ¬cond1_0 i) (hc1 : cond1_1 i)
    (x0 : Vec F S1024x2048 .f32) (x1 : Vec F S32x2048 .f32) (x2 : Vec F S10x1024 .f32) (x3 : Vec F S1024x1 .f32) (x4 : Vec F S10x1 .f32) (xs0 : Vec F S1024x32 .f32) :
    Σ' (L5 : List (View.Piece (Elt F) S10x32 .f32)), { LS0 : List (View.Piece (Elt F) S1024x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc1__fc_body i arg1 harg1 arg2 harg2 arg3 harg3 arg4 harg4 arg5 harg5 arg6 harg6 arg7 harg7) K } := by
  refine ⟨?_, ?_, fun E K => ?run⟩
  case run =>
    simp only [cc1__fc_body_eq_skeleton]; unfold cc1__fc_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

def out1_A_5 (c : Dev nD) (i : grid1.Coords) (arg1 : Memref sig .tc .vmem S1024x2048 .f32) (harg1 : arg1.IsWhole) (arg2 : Memref sig .tc .vmem S32x2048 .f32) (harg2 : arg2.IsWhole) (arg3 : Memref sig .tc .vmem S10x1024 .f32) (harg3 : arg3.IsWhole) (arg4 : Memref sig .tc .vmem S1024x1 .f32) (harg4 : arg4.IsWhole) (arg5 : Memref sig .tc .vmem S10x1 .f32) (harg5 : arg5.IsWhole) (arg6 : Memref sig .tc .vmem S10x32 .f32) (harg6 : arg6.IsWhole) (arg7 : Memref sig .tc .vmem S1024x32 .f32) (harg7 : arg7.IsWhole) (hc0 : cond1_0 i) (hc1 : ¬cond1_1 i)
    (x0 : Vec F S1024x2048 .f32) (x1 : Vec F S32x2048 .f32) (x2 : Vec F S10x1024 .f32) (x3 : Vec F S1024x1 .f32) (x4 : Vec F S10x1 .f32) : Vec F S10x32 .f32 :=
  VO1_5.read (Elt F) (VO1_5.writes (Elt F) VO1_5.junk (kernelRun1_A c i arg1 harg1 arg2 harg2 arg3 harg3 arg4 harg4 arg5 harg5 arg6 harg6 arg7 harg7 hc0 hc1 x0 x1 x2 x3 x4).1)

theorem scover1_A_0 (c : Dev nD) (i : grid1.Coords) (arg1 : Memref sig .tc .vmem S1024x2048 .f32) (harg1 : arg1.IsWhole) (arg2 : Memref sig .tc .vmem S32x2048 .f32) (harg2 : arg2.IsWhole) (arg3 : Memref sig .tc .vmem S10x1024 .f32) (harg3 : arg3.IsWhole) (arg4 : Memref sig .tc .vmem S1024x1 .f32) (harg4 : arg4.IsWhole) (arg5 : Memref sig .tc .vmem S10x1 .f32) (harg5 : arg5.IsWhole) (arg6 : Memref sig .tc .vmem S10x32 .f32) (harg6 : arg6.IsWhole) (arg7 : Memref sig .tc .vmem S1024x32 .f32) (harg7 : arg7.IsWhole) (hc0 : cond1_0 i) (hc1 : ¬cond1_1 i)
    (x0 : Vec F S1024x2048 .f32) (x1 : Vec F S32x2048 .f32) (x2 : Vec F S10x1024 .f32) (x3 : Vec F S1024x1 .f32) (x4 : Vec F S10x1 .f32) (y : S1024x32.Idx) :
    ∃ pc ∈ (kernelRun1_A c i arg1 harg1 arg2 harg2 arg3 harg3 arg4 harg4 arg5 harg5 arg6 harg6 arg7 harg7 hc0 hc1 x0 x1 x2 x3 x4).2.1, y ∈ pc.1.set :=
  View.cover_of_tiledL (kernelRun1_A c i arg1 harg1 arg2 harg2 arg3 harg3 arg4 harg4 arg5 harg5 arg6 harg6 arg7 harg7 hc0 hc1 x0 x1 x2 x3 x4).2.1 S1024x32.size (by sl_kernel_rfl) y

def sout1_A_0 (c : Dev nD) (i : grid1.Coords) (arg1 : Memref sig .tc .vmem S1024x2048 .f32) (harg1 : arg1.IsWhole) (arg2 : Memref sig .tc .vmem S32x2048 .f32) (harg2 : arg2.IsWhole) (arg3 : Memref sig .tc .vmem S10x1024 .f32) (harg3 : arg3.IsWhole) (arg4 : Memref sig .tc .vmem S1024x1 .f32) (harg4 : arg4.IsWhole) (arg5 : Memref sig .tc .vmem S10x1 .f32) (harg5 : arg5.IsWhole) (arg6 : Memref sig .tc .vmem S10x32 .f32) (harg6 : arg6.IsWhole) (arg7 : Memref sig .tc .vmem S1024x32 .f32) (harg7 : arg7.IsWhole) (hc0 : cond1_0 i) (hc1 : ¬cond1_1 i)
    (x0 : Vec F S1024x2048 .f32) (x1 : Vec F S32x2048 .f32) (x2 : Vec F S10x1024 .f32) (x3 : Vec F S1024x1 .f32) (x4 : Vec F S10x1 .f32) : Vec F S1024x32 .f32 :=
  VS1_0.read (Elt F) (VS1_0.writes (Elt F) VS1_0.junk (kernelRun1_A c i arg1 harg1 arg2 harg2 arg3 harg3 arg4 harg4 arg5 harg5 arg6 harg6 arg7 harg7 hc0 hc1 x0 x1 x2 x3 x4).2.1)

def out1_B_5 (c : Dev nD) (i : grid1.Coords) (arg1 : Memref sig .tc .vmem S1024x2048 .f32) (harg1 : arg1.IsWhole) (arg2 : Memref sig .tc .vmem S32x2048 .f32) (harg2 : arg2.IsWhole) (arg3 : Memref sig .tc .vmem S10x1024 .f32) (harg3 : arg3.IsWhole) (arg4 : Memref sig .tc .vmem S1024x1 .f32) (harg4 : arg4.IsWhole) (arg5 : Memref sig .tc .vmem S10x1 .f32) (harg5 : arg5.IsWhole) (arg6 : Memref sig .tc .vmem S10x32 .f32) (harg6 : arg6.IsWhole) (arg7 : Memref sig .tc .vmem S1024x32 .f32) (harg7 : arg7.IsWhole) (hc0 : ¬cond1_0 i) (hc1 : ¬cond1_1 i)
    (x0 : Vec F S1024x2048 .f32) (x1 : Vec F S32x2048 .f32) (x2 : Vec F S10x1024 .f32) (x3 : Vec F S1024x1 .f32) (x4 : Vec F S10x1 .f32) (xs0 : Vec F S1024x32 .f32) : Vec F S10x32 .f32 :=
  VO1_5.read (Elt F) (VO1_5.writes (Elt F) VO1_5.junk (kernelRun1_B c i arg1 harg1 arg2 harg2 arg3 harg3 arg4 harg4 arg5 harg5 arg6 harg6 arg7 harg7 hc0 hc1 x0 x1 x2 x3 x4 xs0).1)

theorem scover1_B_0 (c : Dev nD) (i : grid1.Coords) (arg1 : Memref sig .tc .vmem S1024x2048 .f32) (harg1 : arg1.IsWhole) (arg2 : Memref sig .tc .vmem S32x2048 .f32) (harg2 : arg2.IsWhole) (arg3 : Memref sig .tc .vmem S10x1024 .f32) (harg3 : arg3.IsWhole) (arg4 : Memref sig .tc .vmem S1024x1 .f32) (harg4 : arg4.IsWhole) (arg5 : Memref sig .tc .vmem S10x1 .f32) (harg5 : arg5.IsWhole) (arg6 : Memref sig .tc .vmem S10x32 .f32) (harg6 : arg6.IsWhole) (arg7 : Memref sig .tc .vmem S1024x32 .f32) (harg7 : arg7.IsWhole) (hc0 : ¬cond1_0 i) (hc1 : ¬cond1_1 i)
    (x0 : Vec F S1024x2048 .f32) (x1 : Vec F S32x2048 .f32) (x2 : Vec F S10x1024 .f32) (x3 : Vec F S1024x1 .f32) (x4 : Vec F S10x1 .f32) (xs0 : Vec F S1024x32 .f32) (y : S1024x32.Idx) :
    ∃ pc ∈ (kernelRun1_B c i arg1 harg1 arg2 harg2 arg3 harg3 arg4 harg4 arg5 harg5 arg6 harg6 arg7 harg7 hc0 hc1 x0 x1 x2 x3 x4 xs0).2.1, y ∈ pc.1.set :=
  View.cover_of_tiledL (kernelRun1_B c i arg1 harg1 arg2 harg2 arg3 harg3 arg4 harg4 arg5 harg5 arg6 harg6 arg7 harg7 hc0 hc1 x0 x1 x2 x3 x4 xs0).2.1 S1024x32.size (by sl_kernel_rfl) y

def sout1_B_0 (c : Dev nD) (i : grid1.Coords) (arg1 : Memref sig .tc .vmem S1024x2048 .f32) (harg1 : arg1.IsWhole) (arg2 : Memref sig .tc .vmem S32x2048 .f32) (harg2 : arg2.IsWhole) (arg3 : Memref sig .tc .vmem S10x1024 .f32) (harg3 : arg3.IsWhole) (arg4 : Memref sig .tc .vmem S1024x1 .f32) (harg4 : arg4.IsWhole) (arg5 : Memref sig .tc .vmem S10x1 .f32) (harg5 : arg5.IsWhole) (arg6 : Memref sig .tc .vmem S10x32 .f32) (harg6 : arg6.IsWhole) (arg7 : Memref sig .tc .vmem S1024x32 .f32) (harg7 : arg7.IsWhole) (hc0 : ¬cond1_0 i) (hc1 : ¬cond1_1 i)
    (x0 : Vec F S1024x2048 .f32) (x1 : Vec F S32x2048 .f32) (x2 : Vec F S10x1024 .f32) (x3 : Vec F S1024x1 .f32) (x4 : Vec F S10x1 .f32) (xs0 : Vec F S1024x32 .f32) : Vec F S1024x32 .f32 :=
  VS1_0.read (Elt F) (VS1_0.writes (Elt F) VS1_0.junk (kernelRun1_B c i arg1 harg1 arg2 harg2 arg3 harg3 arg4 harg4 arg5 harg5 arg6 harg6 arg7 harg7 hc0 hc1 x0 x1 x2 x3 x4 xs0).2.1)

theorem cover1_C_5 (c : Dev nD) (i : grid1.Coords) (arg1 : Memref sig .tc .vmem S1024x2048 .f32) (harg1 : arg1.IsWhole) (arg2 : Memref sig .tc .vmem S32x2048 .f32) (harg2 : arg2.IsWhole) (arg3 : Memref sig .tc .vmem S10x1024 .f32) (harg3 : arg3.IsWhole) (arg4 : Memref sig .tc .vmem S1024x1 .f32) (harg4 : arg4.IsWhole) (arg5 : Memref sig .tc .vmem S10x1 .f32) (harg5 : arg5.IsWhole) (arg6 : Memref sig .tc .vmem S10x32 .f32) (harg6 : arg6.IsWhole) (arg7 : Memref sig .tc .vmem S1024x32 .f32) (harg7 : arg7.IsWhole) (hc0 : ¬cond1_0 i) (hc1 : cond1_1 i)
    (x0 : Vec F S1024x2048 .f32) (x1 : Vec F S32x2048 .f32) (x2 : Vec F S10x1024 .f32) (x3 : Vec F S1024x1 .f32) (x4 : Vec F S10x1 .f32) (xs0 : Vec F S1024x32 .f32) (y : S10x32.Idx) :
    ∃ pc ∈ (kernelRun1_C c i arg1 harg1 arg2 harg2 arg3 harg3 arg4 harg4 arg5 harg5 arg6 harg6 arg7 harg7 hc0 hc1 x0 x1 x2 x3 x4 xs0).1, y ∈ pc.1.set :=
  View.cover_of_tiledL (kernelRun1_C c i arg1 harg1 arg2 harg2 arg3 harg3 arg4 harg4 arg5 harg5 arg6 harg6 arg7 harg7 hc0 hc1 x0 x1 x2 x3 x4 xs0).1 S10x32.size (by sl_kernel_rfl) y

def out1_C_5 (c : Dev nD) (i : grid1.Coords) (arg1 : Memref sig .tc .vmem S1024x2048 .f32) (harg1 : arg1.IsWhole) (arg2 : Memref sig .tc .vmem S32x2048 .f32) (harg2 : arg2.IsWhole) (arg3 : Memref sig .tc .vmem S10x1024 .f32) (harg3 : arg3.IsWhole) (arg4 : Memref sig .tc .vmem S1024x1 .f32) (harg4 : arg4.IsWhole) (arg5 : Memref sig .tc .vmem S10x1 .f32) (harg5 : arg5.IsWhole) (arg6 : Memref sig .tc .vmem S10x32 .f32) (harg6 : arg6.IsWhole) (arg7 : Memref sig .tc .vmem S1024x32 .f32) (harg7 : arg7.IsWhole) (hc0 : ¬cond1_0 i) (hc1 : cond1_1 i)
    (x0 : Vec F S1024x2048 .f32) (x1 : Vec F S32x2048 .f32) (x2 : Vec F S10x1024 .f32) (x3 : Vec F S1024x1 .f32) (x4 : Vec F S10x1 .f32) (xs0 : Vec F S1024x32 .f32) : Vec F S10x32 .f32 :=
  VO1_5.read (Elt F) (VO1_5.writes (Elt F) VO1_5.junk (kernelRun1_C c i arg1 harg1 arg2 harg2 arg3 harg3 arg4 harg4 arg5 harg5 arg6 harg6 arg7 harg7 hc0 hc1 x0 x1 x2 x3 x4 xs0).1)

theorem scover1_C_0 (c : Dev nD) (i : grid1.Coords) (arg1 : Memref sig .tc .vmem S1024x2048 .f32) (harg1 : arg1.IsWhole) (arg2 : Memref sig .tc .vmem S32x2048 .f32) (harg2 : arg2.IsWhole) (arg3 : Memref sig .tc .vmem S10x1024 .f32) (harg3 : arg3.IsWhole) (arg4 : Memref sig .tc .vmem S1024x1 .f32) (harg4 : arg4.IsWhole) (arg5 : Memref sig .tc .vmem S10x1 .f32) (harg5 : arg5.IsWhole) (arg6 : Memref sig .tc .vmem S10x32 .f32) (harg6 : arg6.IsWhole) (arg7 : Memref sig .tc .vmem S1024x32 .f32) (harg7 : arg7.IsWhole) (hc0 : ¬cond1_0 i) (hc1 : cond1_1 i)
    (x0 : Vec F S1024x2048 .f32) (x1 : Vec F S32x2048 .f32) (x2 : Vec F S10x1024 .f32) (x3 : Vec F S1024x1 .f32) (x4 : Vec F S10x1 .f32) (xs0 : Vec F S1024x32 .f32) (y : S1024x32.Idx) :
    ∃ pc ∈ (kernelRun1_C c i arg1 harg1 arg2 harg2 arg3 harg3 arg4 harg4 arg5 harg5 arg6 harg6 arg7 harg7 hc0 hc1 x0 x1 x2 x3 x4 xs0).2.1, y ∈ pc.1.set :=
  View.cover_of_tiledL (kernelRun1_C c i arg1 harg1 arg2 harg2 arg3 harg3 arg4 harg4 arg5 harg5 arg6 harg6 arg7 harg7 hc0 hc1 x0 x1 x2 x3 x4 xs0).2.1 S1024x32.size (by sl_kernel_rfl) y

def sout1_C_0 (c : Dev nD) (i : grid1.Coords) (arg1 : Memref sig .tc .vmem S1024x2048 .f32) (harg1 : arg1.IsWhole) (arg2 : Memref sig .tc .vmem S32x2048 .f32) (harg2 : arg2.IsWhole) (arg3 : Memref sig .tc .vmem S10x1024 .f32) (harg3 : arg3.IsWhole) (arg4 : Memref sig .tc .vmem S1024x1 .f32) (harg4 : arg4.IsWhole) (arg5 : Memref sig .tc .vmem S10x1 .f32) (harg5 : arg5.IsWhole) (arg6 : Memref sig .tc .vmem S10x32 .f32) (harg6 : arg6.IsWhole) (arg7 : Memref sig .tc .vmem S1024x32 .f32) (harg7 : arg7.IsWhole) (hc0 : ¬cond1_0 i) (hc1 : cond1_1 i)
    (x0 : Vec F S1024x2048 .f32) (x1 : Vec F S32x2048 .f32) (x2 : Vec F S10x1024 .f32) (x3 : Vec F S1024x1 .f32) (x4 : Vec F S10x1 .f32) (xs0 : Vec F S1024x32 .f32) : Vec F S1024x32 .f32 :=
  VS1_0.read (Elt F) (VS1_0.writes (Elt F) VS1_0.junk (kernelRun1_C c i arg1 harg1 arg2 harg2 arg3 harg3 arg4 harg4 arg5 harg5 arg6 harg6 arg7 harg7 hc0 hc1 x0 x1 x2 x3 x4 xs0).2.1)

/-- What the output buffer and the carried accumulator hold after each grid point of the classifier call. -/
def outsAt1 (c : Dev nD) : (n : ℕ) → n < cfg1.N → Vec F S10x32 .f32 × Vec F S1024x32 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 16 = 0 then
      if h1 : (n + 1) % 16 = 15 then
        False.elim (by have hN : n + 1 < 16 := lt_of_lt_of_eq hn (show cfg1.N = 16 from N_1); omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 16 = 15 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

theorem outsAt1_A (c : Dev nD) (t : Fin cfg1.N) (h0 : t.val % 16 = 0) (h1 : ¬t.val % 16 = 15) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before grid point `n`: the accumulator at what the point before left, at anything before the first. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2)) ∗ G1 c)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM1_0 fullShare ((outsAt1 V c n hn).2)) ∗ G1 c) := rfl

theorem PhiS_pos (c : Dev nD) (n : ℕ) (h : n ≤ cfg1.N) (hz : n ≠ 0) :
    PhiS V c n h = iprop(iprop(owns (c : Thread nD τ) scM1_0 fullShare ((outsAt1 V c (n - 1) (by omega)).2)) ∗ G1 c) := by
  cases n with
  | zero => exact absurd rfl hz
  | succ n => rfl

/-- The proof data of the classifier call. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any grid point of the classifier call, by its three cases. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hN : t.val < 16 := lt_of_lt_of_eq t.isLt (show cfg1.N = 16 from N_1)
  by_cases h0 : t.val % 16 = 0
  · by_cases h1 : t.val % 16 = 15
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      by_cases hz : t.val = 0
      · rw [PhiS_castSucc V c t, PhiS_zero V c _ _ hz, PhiA1_eq]
        rw [outsAt1_A V c t h0 h1]
        unfold sout1_A_0; (try dsimp only)
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · exfalso; have hN : t.val < 16 := lt_of_lt_of_eq t.isLt (show cfg1.N = 16 from N_1); omega
  · by_cases h1 : t.val % 16 = 15
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5_C t (fun h => h0 ((hcond1_0 t).mp h)) ((hcond1_1 t).mpr h1)], after1_5]
      by_cases hz : t.val = 0
      · exfalso; have hN : t.val < 16 := lt_of_lt_of_eq t.isLt (show cfg1.N = 16 from N_1); omega
      · rw [PhiS_castSucc V c t, PhiS_pos V c _ _ hz]
        rw [outsAt1_C V c t h0 h1]
        unfold out1_C_5 sout1_C_0; (try dsimp only)
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 Hg]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _)
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      by_cases hz : t.val = 0
      · exfalso; have hN : t.val < 16 := lt_of_lt_of_eq t.isLt (show cfg1.N = 16 from N_1); omega
      · rw [PhiS_castSucc V c t, PhiS_pos V c _ _ hz]
        rw [outsAt1_B V c t h0 h1]
        unfold sout1_B_0; (try dsimp only)
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

theorem defs₀_row1 (t : Fin cfg1.N) :
    defs₀ (F := F) .tc cfg1.body (cfg1.bodyArgs t (cfg1.slots t)) = bodyAt1 t := by
  unfold defs₀; rw [Defs.onTc_tc]

/-- The classifier call meets the pipeline's obligation. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- Entering the call gives the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨HS0, Hg⟩
  isplitl [HS0]
  · iexists _; iexact HS0
  iexact Hg

/-- The invariant after the last point gives back what the call was entered with. -/
theorem hout1 (c : Dev nD) : (dat1 V c).Φ (Fin.last cfg1.N) ⊢ Pipeline.ΦA spec1 c :=
  Phi_out V c _ (by rw [Fin.val_last]; have : cfg1.N = 16 := N_1; omega)

end Cert.KernelIdeal.Net

end
-- ==== Proof.RunI.lean ====
module

public import proofs.«01_k».proof.Proof.FeatI
public import proofs.«01_k».proof.Proof.FcI
public import proofs.«01_k».proof.Proof.Gen.KernelIdeal.Regions

@[expose] public section

/-! The whole program as a chain of host stretches and the two calls, and its run: it ends with the arguments as
launched, the result at what the chain of contents says, and every semaphore counter at zero. -/

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6, main_arg7, main_arg8, main_arg9, main_arg10, main_arg11, main_arg12]

theorem hostOps0_args : ∀ a ∈ argRefs, a ∉ hostOps0_W := ListAll.forall_mem_of_all_decide (by decide +kernel)

theorem hostOps0_1_args : ∀ a ∈ argRefs, a ∉ hostOps0_1_W := ListAll.forall_mem_of_all_decide (by decide +kernel)

theorem hostOps0_2_args : ∀ a ∈ argRefs, a ∉ hostOps0_2_W := ListAll.forall_mem_of_all_decide (by decide +kernel)

theorem hostOps0_3_args : ∀ a ∈ argRefs, a ∉ hostOps0_3_W := ListAll.forall_mem_of_all_decide (by decide +kernel)

theorem hostOps0_4_args : ∀ a ∈ argRefs, a ∉ hostOps0_4_W := ListAll.forall_mem_of_all_decide (by decide +kernel)

theorem hostOps0_5_args : ∀ a ∈ argRefs, a ∉ hostOps0_5_W := ListAll.forall_mem_of_all_decide (by decide +kernel)

theorem hostOps0_6_args : ∀ a ∈ argRefs, a ∉ hostOps0_6_W := ListAll.forall_mem_of_all_decide (by decide +kernel)

theorem hostOps0_7_args : ∀ a ∈ argRefs, a ∉ hostOps0_7_W := ListAll.forall_mem_of_all_decide (by decide +kernel)

theorem hostOps0_8_args : ∀ a ∈ argRefs, a ∉ hostOps0_8_W := ListAll.forall_mem_of_all_decide (by decide +kernel)

theorem hostOps0_9_args : ∀ a ∈ argRefs, a ∉ hostOps0_9_W := ListAll.forall_mem_of_all_decide (by decide +kernel)

theorem hostOps0_10_args : ∀ a ∈ argRefs, a ∉ hostOps0_10_W := ListAll.forall_mem_of_all_decide (by decide +kernel)

theorem hostOps1_args : ∀ a ∈ argRefs, a ∉ hostOps1_W := ListAll.forall_mem_of_all_decide (by decide +kernel)

theorem hostOps2_args : ∀ a ∈ argRefs, a ∉ hostOps2_W := ListAll.forall_mem_of_all_decide (by decide +kernel)

/-- The buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
abbrev W3 : Dev nD → Valuation τ sig (Elt F) := fun c => StableHlo.after hostOps0_2 (W2 m ρ c)
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
abbrev W4 : Dev nD → Valuation τ sig (Elt F) := fun c => StableHlo.after hostOps0_3 (W3 m ρ c)
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)
abbrev W5 : Dev nD → Valuation τ sig (Elt F) := fun c => StableHlo.after hostOps0_4 (W4 m ρ c)
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W5_args (c : Dev nD) : ∀ a ∈ argRefs, W5 m ρ c (Proc.devRef .tc a) = m ((c : Thread nD τ).loc a) :=
  fun a ha => (W5_of m ρ c a (hostOps0_4_args a ha)).trans (W4_args m ρ c a ha)
abbrev W6 : Dev nD → Valuation τ sig (Elt F) := fun c => StableHlo.after hostOps0_5 (W5 m ρ c)
theorem W6_of (c : Dev nD) (r : Ref sig .tc) (h : r ∉ hostOps0_5_W) : W6 m ρ c (Proc.devRef .tc r) = W5 m ρ c (Proc.devRef .tc r) :=
  StableHlo.after_of_writes_sub hostOps0_5 _ hostOps0_5_writes h
theorem W6_args (c : Dev nD) : ∀ a ∈ argRefs, W6 m ρ c (Proc.devRef .tc a) = m ((c : Thread nD τ).loc a) :=
  fun a ha => (W6_of m ρ c a (hostOps0_5_args a ha)).trans (W5_args m ρ c a ha)
abbrev W7 : Dev nD → Valuation τ sig (Elt F) := fun c => StableHlo.after hostOps0_6 (W6 m ρ c)
theorem W7_of (c : Dev nD) (r : Ref sig .tc) (h : r ∉ hostOps0_6_W) : W7 m ρ c (Proc.devRef .tc r) = W6 m ρ c (Proc.devRef .tc r) :=
  StableHlo.after_of_writes_sub hostOps0_6 _ hostOps0_6_writes h
theorem W7_args (c : Dev nD) : ∀ a ∈ argRefs, W7 m ρ c (Proc.devRef .tc a) = m ((c : Thread nD τ).loc a) :=
  fun a ha => (W7_of m ρ c a (hostOps0_6_args a ha)).trans (W6_args m ρ c a ha)
abbrev W8 : Dev nD → Valuation τ sig (Elt F) := fun c => StableHlo.after hostOps0_7 (W7 m ρ c)
theorem W8_of (c : Dev nD) (r : Ref sig .tc) (h : r ∉ hostOps0_7_W) : W8 m ρ c (Proc.devRef .tc r) = W7 m ρ c (Proc.devRef .tc r) :=
  StableHlo.after_of_writes_sub hostOps0_7 _ hostOps0_7_writes h
theorem W8_args (c : Dev nD) : ∀ a ∈ argRefs, W8 m ρ c (Proc.devRef .tc a) = m ((c : Thread nD τ).loc a) :=
  fun a ha => (W8_of m ρ c a (hostOps0_7_args a ha)).trans (W7_args m ρ c a ha)
abbrev W9 : Dev nD → Valuation τ sig (Elt F) := fun c => StableHlo.after hostOps0_8 (W8 m ρ c)
theorem W9_of (c : Dev nD) (r : Ref sig .tc) (h : r ∉ hostOps0_8_W) : W9 m ρ c (Proc.devRef .tc r) = W8 m ρ c (Proc.devRef .tc r) :=
  StableHlo.after_of_writes_sub hostOps0_8 _ hostOps0_8_writes h
theorem W9_args (c : Dev nD) : ∀ a ∈ argRefs, W9 m ρ c (Proc.devRef .tc a) = m ((c : Thread nD τ).loc a) :=
  fun a ha => (W9_of m ρ c a (hostOps0_8_args a ha)).trans (W8_args m ρ c a ha)
abbrev W10 : Dev nD → Valuation τ sig (Elt F) := fun c => StableHlo.after hostOps0_9 (W9 m ρ c)
theorem W10_of (c : Dev nD) (r : Ref sig .tc) (h : r ∉ hostOps0_9_W) : W10 m ρ c (Proc.devRef .tc r) = W9 m ρ c (Proc.devRef .tc r) :=
  StableHlo.after_of_writes_sub hostOps0_9 _ hostOps0_9_writes h
theorem W10_args (c : Dev nD) : ∀ a ∈ argRefs, W10 m ρ c (Proc.devRef .tc a) = m ((c : Thread nD τ).loc a) :=
  fun a ha => (W10_of m ρ c a (hostOps0_9_args a ha)).trans (W9_args m ρ c a ha)
abbrev W11 : Dev nD → Valuation τ sig (Elt F) := fun c => StableHlo.after hostOps0_10 (W10 m ρ c)
theorem W11_of (c : Dev nD) (r : Ref sig .tc) (h : r ∉ hostOps0_10_W) : W11 m ρ c (Proc.devRef .tc r) = W10 m ρ c (Proc.devRef .tc r) :=
  StableHlo.after_of_writes_sub hostOps0_10 _ hostOps0_10_writes h
theorem W11_args (c : Dev nD) : ∀ a ∈ argRefs, W11 m ρ c (Proc.devRef .tc a) = m ((c : Thread nD τ).loc a) :=
  fun a ha => (W11_of m ρ c a (hostOps0_10_args a ha)).trans (W10_args m ρ c a ha)
abbrev V11 : (c : Dev nD) → (b : Ref sig .tc) → Buf (Elt F) ((c : Thread nD τ).loc b) := fun c b => W11 m ρ c b
/-- The buffers after the feature call. -/
def W12 (c : Dev nD) : Valuation τ sig (Elt F) :=
  Pipeline.withArrays spec0 c (W11 m ρ c) fun w => (dat0 (V11 m ρ) c).arrAt w cfg0.N
theorem W12_arr (c : Dev nD) (w : Fin cfg0.W) :
    W12 m ρ c (Proc.devRef .tc (Pipeline.arrRef spec0 w)) = (dat0 (V11 m ρ) c).arrAt w cfg0.N := by
  unfold W12; exact Pipeline.withArrays_arr spec0 launch0.win.arr_inj c _ _ w
theorem W12_of_ne (c : Dev nD) (b : Ref sig .tc) (hb : ∀ w, Pipeline.arrRef spec0 w ≠ b) :
    W12 m ρ c (Proc.devRef .tc b) = W11 m ρ c (Proc.devRef .tc b) := by
  unfold W12; exact Pipeline.withArrays_of_ne spec0 c _ _ b hb
theorem W12_of (c : Dev nD) (r : Ref sig .tc) (h : ∀ w : Fin cfg0.W, Pipeline.arrRef spec0 w = r → (cfg0.win w).isOut = false) :
    W12 m ρ c (Proc.devRef .tc r) = W11 m ρ c (Proc.devRef .tc r) := by
  by_cases hw : ∃ w : Fin cfg0.W, Pipeline.arrRef spec0 w = r
  · obtain ⟨w, rfl⟩ := hw
    exact (W12_arr m ρ c w).trans (((dat0 (V11 m ρ) c).arrAt_in w (h w rfl) _).trans (A_eq0 (V11 m ρ) c w))
  · exact W12_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W12_args (c : Dev nD) : ∀ a ∈ argRefs, W12 m ρ c (Proc.devRef .tc a) = m ((c : Thread nD τ).loc a) :=
  fun a ha => (W12_of m ρ c a (argsIn0 a ha)).trans (W11_args m ρ c a ha)
abbrev V12 : (c : Dev nD) → (b : Ref sig .tc) → Buf (Elt F) ((c : Thread nD τ).loc b) := fun c b => W12 m ρ c b
theorem hF0 (c : Dev nD) (w : Fin cfg0.W) : (dat0 (V11 m ρ) c).arrAt w cfg0.N = V12 m ρ c (Pipeline.arrRef spec0 w) :=
  (W12_arr m ρ c w).symm
theorem hrest0 (c : Dev nD) : ∀ b, b ∉ Finset.univ.image (Pipeline.arrRef spec0) → V12 m ρ c b = V11 m ρ c b :=
  fun b hb => W12_of_ne m ρ c b fun w e => hb (Finset.mem_image.mpr ⟨w, Finset.mem_univ _, e⟩)

abbrev W13 : Dev nD → Valuation τ sig (Elt F) := fun c => StableHlo.after hostOps1 (W12 m ρ c)
theorem W13_of (c : Dev nD) (r : Ref sig .tc) (h : r ∉ hostOps1_W) : W13 m ρ c (Proc.devRef .tc r) = W12 m ρ c (Proc.devRef .tc r) :=
  StableHlo.after_of_writes_sub hostOps1 _ hostOps1_writes h
theorem W13_args (c : Dev nD) : ∀ a ∈ argRefs, W13 m ρ c (Proc.devRef .tc a) = m ((c : Thread nD τ).loc a) :=
  fun a ha => (W13_of m ρ c a (hostOps1_args a ha)).trans (W12_args m ρ c a ha)
abbrev V13 : (c : Dev nD) → (b : Ref sig .tc) → Buf (Elt F) ((c : Thread nD τ).loc b) := fun c b => W13 m ρ c b
/-- The buffers after the classifier call. -/
def W14 (c : Dev nD) : Valuation τ sig (Elt F) :=
  Pipeline.withArrays spec1 c (W13 m ρ c) fun w => (dat1 (V13 m ρ) c).arrAt w cfg1.N
theorem W14_arr (c : Dev nD) (w : Fin cfg1.W) :
    W14 m ρ c (Proc.devRef .tc (Pipeline.arrRef spec1 w)) = (dat1 (V13 m ρ) c).arrAt w cfg1.N := by
  unfold W14; exact Pipeline.withArrays_arr spec1 launch1.win.arr_inj c _ _ w
theorem W14_of_ne (c : Dev nD) (b : Ref sig .tc) (hb : ∀ w, Pipeline.arrRef spec1 w ≠ b) :
    W14 m ρ c (Proc.devRef .tc b) = W13 m ρ c (Proc.devRef .tc b) := by
  unfold W14; exact Pipeline.withArrays_of_ne spec1 c _ _ b hb
theorem W14_of (c : Dev nD) (r : Ref sig .tc) (h : ∀ w : Fin cfg1.W, Pipeline.arrRef spec1 w = r → (cfg1.win w).isOut = false) :
    W14 m ρ c (Proc.devRef .tc r) = W13 m ρ c (Proc.devRef .tc r) := by
  by_cases hw : ∃ w : Fin cfg1.W, Pipeline.arrRef spec1 w = r
  · obtain ⟨w, rfl⟩ := hw
    exact (W14_arr m ρ c w).trans (((dat1 (V13 m ρ) c).arrAt_in w (h w rfl) _).trans (A_eq1 (V13 m ρ) c w))
  · exact W14_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W14_args (c : Dev nD) : ∀ a ∈ argRefs, W14 m ρ c (Proc.devRef .tc a) = m ((c : Thread nD τ).loc a) :=
  fun a ha => (W14_of m ρ c a (argsIn1 a ha)).trans (W13_args m ρ c a ha)
abbrev V14 : (c : Dev nD) → (b : Ref sig .tc) → Buf (Elt F) ((c : Thread nD τ).loc b) := fun c b => W14 m ρ c b
theorem hF1 (c : Dev nD) (w : Fin cfg1.W) : (dat1 (V13 m ρ) c).arrAt w cfg1.N = V14 m ρ c (Pipeline.arrRef spec1 w) :=
  (W14_arr m ρ c w).symm
theorem hrest1 (c : Dev nD) : ∀ b, b ∉ Finset.univ.image (Pipeline.arrRef spec1) → V14 m ρ c b = V13 m ρ c b :=
  fun b hb => W14_of_ne m ρ c b fun w e => hb (Finset.mem_image.mpr ⟨w, Finset.mem_univ _, e⟩)

/-- The buffers at the end. -/
abbrev W15 : Dev nD → Valuation τ sig (Elt F) := fun c => StableHlo.after hostOps2 (W14 m ρ c)
theorem W15_of (c : Dev nD) (r : Ref sig .tc) (h : r ∉ hostOps2_W) : W15 m ρ c (Proc.devRef .tc r) = W14 m ρ c (Proc.devRef .tc r) :=
  StableHlo.after_of_writes_sub hostOps2 _ hostOps2_writes h
theorem W15_args (c : Dev nD) : ∀ a ∈ argRefs, W15 m ρ c (Proc.devRef .tc a) = m ((c : Thread nD τ).loc a) :=
  fun a ha => (W15_of m ρ c a (hostOps2_args a ha)).trans (W14_args m ρ c a ha)

theorem W15_main_arg0 (c : Dev nD) : W15 m ρ c (Proc.devRef .tc main_arg0) = m ((c : Thread nD τ).loc main_arg0) :=
  W15_args m ρ c main_arg0 (by decide)
theorem W15_main_arg1 (c : Dev nD) : W15 m ρ c (Proc.devRef .tc main_arg1) = m ((c : Thread nD τ).loc main_arg1) :=
  W15_args m ρ c main_arg1 (by decide)
theorem W15_main_arg2 (c : Dev nD) : W15 m ρ c (Proc.devRef .tc main_arg2) = m ((c : Thread nD τ).loc main_arg2) :=
  W15_args m ρ c main_arg2 (by decide)
theorem W15_main_arg3 (c : Dev nD) : W15 m ρ c (Proc.devRef .tc main_arg3) = m ((c : Thread nD τ).loc main_arg3) :=
  W15_args m ρ c main_arg3 (by decide)
theorem W15_main_arg4 (c : Dev nD) : W15 m ρ c (Proc.devRef .tc main_arg4) = m ((c : Thread nD τ).loc main_arg4) :=
  W15_args m ρ c main_arg4 (by decide)
theorem W15_main_arg5 (c : Dev nD) : W15 m ρ c (Proc.devRef .tc main_arg5) = m ((c : Thread nD τ).loc main_arg5) :=
  W15_args m ρ c main_arg5 (by decide)
theorem W15_main_arg6 (c : Dev nD) : W15 m ρ c (Proc.devRef .tc main_arg6) = m ((c : Thread nD τ).loc main_arg6) :=
  W15_args m ρ c main_arg6 (by decide)
theorem W15_main_arg7 (c : Dev nD) : W15 m ρ c (Proc.devRef .tc main_arg7) = m ((c : Thread nD τ).loc main_arg7) :=
  W15_args m ρ c main_arg7 (by decide)
theorem W15_main_arg8 (c : Dev nD) : W15 m ρ c (Proc.devRef .tc main_arg8) = m ((c : Thread nD τ).loc main_arg8) :=
  W15_args m ρ c main_arg8 (by decide)
theorem W15_main_arg9 (c : Dev nD) : W15 m ρ c (Proc.devRef .tc main_arg9) = m ((c : Thread nD τ).loc main_arg9) :=
  W15_args m ρ c main_arg9 (by decide)
theorem W15_main_arg10 (c : Dev nD) : W15 m ρ c (Proc.devRef .tc main_arg10) = m ((c : Thread nD τ).loc main_arg10) :=
  W15_args m ρ c main_arg10 (by decide)
theorem W15_main_arg11 (c : Dev nD) : W15 m ρ c (Proc.devRef .tc main_arg11) = m ((c : Thread nD τ).loc main_arg11) :=
  W15_args m ρ c main_arg11 (by decide)
theorem W15_main_arg12 (c : Dev nD) : W15 m ρ c (Proc.devRef .tc main_arg12) = m ((c : Thread nD τ).loc main_arg12) :=
  W15_args m ρ c main_arg12 (by decide)

abbrev adm : (p : Fin 2) → (pcfgs (F := F) p).Adm := fun p => (cfgs p).toPCfg_adm
/-- The proof data of the two calls. -/
def pdats : (p : Fin 2) → (c : Dev nD) → Dat τ (Elt F) Unit ℕ (UR sig nD τ) ℕ (Pipeline.pin (pcfgs (F := F)) adm p) c
  | ⟨0, _⟩ => fun c => dat0 (V11 m ρ) c
  | ⟨1, _⟩ => fun c => dat1 (V13 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W15 m ρ c) ∗ ∃ r, prngReg c r)

set_option backward.isDefEq.respectTransparency.types false in
/-- The feature call as a segment. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V11 m ρ) c).loose
  hwaits := Pipeline.hwaits_of_owed_zero _ _ _ _ L lv 0 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec0 c (V11 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V11 m ρ c) (A_eq0 (V11 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V11 m ρ c) (V12 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The classifier call as a segment. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V13 m ρ) c).loose
  hwaits := Pipeline.hwaits_of_owed_zero _ _ _ _ L lv 1 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec1 c (V13 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V13 m ρ c) (A_eq1 (V13 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V13 m ρ) c)
    unfold Pipeline.ΦA
    iintro ⟨Hp, -, Hr⟩
    isplitl [Hr]; · iexact Hr
    iexact Hp
  hout c := by
    refine BIBase.Entails.trans (hout1 (V13 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V13 m ρ c) (V14 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program as its segments. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .region (reg0 m ρ),
    .host (hseg hostOps1 hostOps1_sub hostOps1_fresh (W12 m ρ)),
    .region (reg1 m ρ),
    .host (hseg hostOps2 hostOps2_sub hostOps2_fresh (W14 m ρ)) ]
/-- The program is the run of its segments. -/
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every run ends with the result at the last boundary's contents, the arguments as launched, and every semaphore
    counter at zero. -/
theorem run_main : θ_run defs (onTc (τ := τ) (main (F := F))) ⟨m, fun _ => 0, ρ⟩ (fun r => (∀ c : Dev nD, r.2.mem ((c.tc : Thread nD τ).loc main_v40) = W15 m ρ c (Proc.devRef .tc main_v40))
      ∧ (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h hz => ⟨fun c => h c _ (mem_uc main_v40 (by decide)), (fun c =>
      ⟨(h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c)⟩), funext fun g => hz g (.inr (no_unscoped g.2))⟩)

/-- Every run ends with the argument arrays as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun _ h => h.2) (run_main m ρ)

end Cert.KernelIdeal.Net

end
-- ==== Proof.TopPick.lean ====
/- The order in which a stable descending sort ranks a row of extended reals, and why repeatedly taking the first
   largest entry, and striking it out, goes through the row in that order. -/
module

public import Idealize.ShloMosaic.Lib.SortFacts
public import Idealize.ShloMosaic.Lib.SortPrefix
public import Mathlib.Data.EReal.Basic

@[expose] public section

noncomputable section

namespace Cert.Net

open Idealize.ShloMosaic

variable {n : Nat}

/-- Position `k` goes before position `k'`: its entry is larger. -/
def above (s : Fin n → EReal) (k k' : Fin n) : Bool := decide (s k' < s k)

/-- Position `k` goes before position `k'`: its entry is larger, or as large and earlier. -/
def aboveTie (s : Fin n → EReal) (k k' : Fin n) : Bool :=
  decide (s k' < s k) || (decide (s k = s k') && decide (k < k'))

/-- With ties broken by position the order is strict and total. -/
theorem aboveTie_total (s : Fin n → EReal) : StrictTotalBefore (aboveTie s) := by
  classical
  have h := StrictTotalBefore.of_key_then_position (fun a b : EReal => decide (b < a)) s (fun a => by simp)
    (fun a b c hab hbc => by simp only [decide_eq_true_eq] at *; exact hbc.trans hab)
    (fun a b => by
      simp only [decide_eq_true_eq]
      rcases lt_trichotomy a b with h | h | h
      · exact Or.inr (Or.inr h)
      · exact Or.inr (Or.inl h)
      · exact Or.inl h)
  have e : aboveTie s = fun k k' : Fin n => (fun a b : EReal => decide (b < a)) (s k) (s k')
      || (decide (s k = s k') && decide (k < k')) := by
    rfl
  rw [e]
  convert h

/-- Inserting an earlier position among later ones does not depend on how ties are broken. -/
theorem insertBefore_tie (s : Fin n → EReal) (a : Fin n) (l : List (Fin n)) (h : ∀ b ∈ l, a < b) :
    insertBefore (above s) a l = insertBefore (aboveTie s) a l := by
  induction l with
  | nil => rfl
  | cons b l ih =>
    have hb : ¬ b < a := not_lt.mpr (h b (List.mem_cons_self ..)).le
    have e : aboveTie s b a = above s b a := by simp [above, aboveTie, hb]
    simp only [insertBefore, e, ih fun x hx => h x (List.mem_cons_of_mem _ hx)]

/-- So the stable sort of an increasing list of positions is the sort with ties broken by position. -/
theorem stableSort_tie (s : Fin n → EReal) (l : List (Fin n)) (hl : l.Pairwise (· < ·)) :
    stableSort (above s) l = stableSort (aboveTie s) l := by
  induction l with
  | nil => rfl
  | cons a l ih =>
    obtain ⟨ha, hl'⟩ := List.pairwise_cons.mp hl
    simp only [stableSort]
    rw [ih hl', insertBefore_tie s a _ fun b hb => ha b ((perm_stableSort _ l).mem_iff.mp hb)]

/-- The position of the `r`-th largest entry, equal entries counted in the order of their positions. -/
def ranked (s : Fin n → EReal) (r : Fin n) : Fin n := sortedFrom (above s) r

/-- Every position has a rank. -/
theorem ranked_surjective (s : Fin n → EReal) : Function.Surjective (ranked s) := sortedFrom_surjective _

/-- Different ranks are at different positions. -/
theorem ranked_injective (s : Fin n → EReal) : Function.Injective (ranked s) := sortedFrom_injective _

/-- A later rank has a smaller entry, or an equal one at a later position. -/
theorem ranked_order (s : Fin n → EReal) {i j : Fin n} (h : i < j) :
    s (ranked s j) < s (ranked s i) ∨ (s (ranked s j) = s (ranked s i) ∧ ranked s i < ranked s j) := by
  have hp : (sortPositions n (above s)).Pairwise fun a b => aboveTie s b a = false := by
    rw [sortPositions, stableSort_tie s _ (List.pairwise_lt_finRange n)]
    exact (aboveTie_total s).sorted_stableSort _
  have hn : aboveTie s (ranked s j) (ranked s i) = false :=
    List.pairwise_iff_get.mp hp (i.cast (length_sortPositions n _).symm) (j.cast (length_sortPositions n _).symm) h
  have hne : ranked s i ≠ ranked s j := fun e => absurd (ranked_injective s e) h.ne
  simp only [aboveTie, Bool.or_eq_false_iff, Bool.and_eq_false_iff, decide_eq_false_iff_not, not_lt] at hn
  rcases lt_or_eq_of_le hn.1 with h1 | h1
  · exact Or.inl h1
  · rcases hn.2 with h2 | h2
    · exact absurd h1 h2
    · exact Or.inr ⟨h1, lt_of_le_of_ne h2 hne⟩

/-- The row after the first `r` ranks are struck out. -/
def struck (s : Fin n → EReal) (r : Nat) (j : Fin n) : EReal :=
  open Classical in if ∃ q : Fin n, q.val < r ∧ ranked s q = j then ⊥ else s j

/-- Nothing is struck out of the row to begin with. -/
theorem struck_zero (s : Fin n → EReal) : struck s 0 = s := by
  funext j
  simp [struck]

/-- Each step strikes out one more rank. -/
theorem struck_succ (s : Fin n → EReal) (r : Fin n) (j : Fin n) :
    struck s (r.val + 1) j = if j = ranked s r then ⊥ else struck s r.val j := by
  classical
  unfold struck
  by_cases h : j = ranked s r
  · rw [if_pos h, if_pos ⟨r, Nat.lt_succ_self _, h.symm⟩]
  · rw [if_neg h]
    refine if_congr ⟨fun ⟨q, hq, e⟩ => ⟨q, ?_, e⟩, fun ⟨q, hq, e⟩ => ⟨q, by omega, e⟩⟩ rfl rfl
    rcases Nat.lt_succ_iff_lt_or_eq.mp hq with h1 | h1
    · exact h1
    · have : q = r := Fin.ext h1
      exact absurd (this ▸ e).symm h

/-- `p` is the first position of the row's largest entry. -/
def IsFirstMax (v : Fin n → EReal) (p : Fin n) : Prop := (∀ j, v j ≤ v p) ∧ ∀ j, v p ≤ v j → p ≤ j

/-- The first largest entry of what is left is the next rank, if no entry of the row is `⊥`. -/
theorem struck_isFirstMax (s : Fin n → EReal) (hs : ∀ j, s j ≠ ⊥) (r : Fin n) :
    IsFirstMax (struck s r.val) (ranked s r) := by
  classical
  have hr : struck s r.val (ranked s r) = s (ranked s r) := by
    unfold struck
    rw [if_neg]
    rintro ⟨q, hq, e⟩
    have := ranked_injective s e
    subst this
    exact lt_irrefl _ hq
  have key : ∀ j, struck s r.val j < s (ranked s r) ∨ (struck s r.val j = s (ranked s r) ∧ ranked s r ≤ j) := by
    intro j
    obtain ⟨q, rfl⟩ := ranked_surjective s j
    unfold struck
    split
    · exact Or.inl (bot_lt_iff_ne_bot.mpr (hs _))
    · next h =>
      have hq : r ≤ q := by
        by_contra hlt
        exact h ⟨q, by simpa using hlt, rfl⟩
      rcases lt_or_eq_of_le hq with h1 | h1
      · rcases ranked_order s h1 with h2 | ⟨h2, h3⟩
        · exact Or.inl h2
        · exact Or.inr ⟨h2, h3.le⟩
      · subst h1
        exact Or.inr ⟨rfl, le_rfl⟩
  refine ⟨fun j => ?_, fun j hj => ?_⟩
  · rw [hr]
    rcases key j with h | ⟨h, -⟩
    · exact h.le
    · exact h.le
  · rw [hr] at hj
    rcases key j with h | ⟨-, h⟩
    · exact absurd hj (not_le.mpr h)
    · exact h

end Cert.Net

end
-- ==== Proof.Rounds.lean ====
/- One round of the nearest-neighbour search of the feature kernel, read at an index: the column of the first largest
   similarity of each row, the features of that column, and the similarities with it struck out. -/
module

public import proofs.«01_k».proof.Proof.Gen.KernelIdeal.Skeleton
public import proofs.«01_k».proof.Proof.TopPick
public import Idealize.ShloMosaic.Lib.Pointwise
public import Idealize.ShloMosaic.PureOps.Ideal.Laws

@[expose] public section

set_option maxRecDepth 16384

noncomputable section

namespace Cert.KernelIdeal.Net

open Idealize.ShloMosaic Idealize.ShloMosaic.TcCoe
open Cert.KernelIdeal Cert.KernelIdeal.Gen Cert.Net

/-- The float pattern of minus infinity is the least extended real. -/
theorem bits_negInf : Ideal.ofBits .f32 0xFF800000#32 = (⊥ : EReal) := by
  simp [Ideal.ofBits, Ideal.ieee]

/-- The float pattern the kernel puts where a column is not a candidate: -2048. -/
theorem bits_noColumn : Ideal.ofBits .f32 0xC5000000#32 = ((-2048 : ℝ) : EReal) := by
  simp [Ideal.ofBits, Ideal.ieee, -EReal.coe_mul, -EReal.coe_neg]; norm_num

/-- A column number read as a signed word and then as a real is itself. -/
theorem sitofp_col (k : Fin 1024) : (FloatOps.sitofp (F := Ideal) .f32 (BitVec.ofNat 32 k.val) : EReal) = ((k.val : ℝ) : EReal) := by
  have h : (BitVec.ofNat 32 k.val).toInt = (k.val : ℤ) := by
    rw [BitVec.toInt_eq_toNat_of_lt (by simp; omega)]; simp; omega
  change (((BitVec.ofNat 32 k.val).toInt : ℝ) : EReal) = _
  rw [h]; simp

/-- The number of column `k`, negated, in every row. -/
theorem negCol_apply (q k : Fin 1024) : k0_pay5 (F := Ideal) (ix2 q k) = ((-(k.val : ℝ) : ℝ) : EReal) := by
  pointwise [k0_pay5]
  rw [sitofp_col, zero_sub, EReal.coe_neg]

/-- Each row's largest entry, in every column. -/
def rowMax (v : FVec Ideal S1024x1024 .f32) : FVec Ideal S1024x1024 .f32 :=
  broadcastTo S1024x1024 (shapeCast S1024x1 (multiReduction .maximumf [1] S1024 v 0xFF800000#32
    reduces_S1024x1024_S1024 (.inl rfl) rfl) shapeCasts_S1024_S1024x1) broadcasts_S1024x1_S1024x1024

theorem rowMax_apply (v : FVec Ideal S1024x1024 .f32) (q k : Fin 1024) :
    rowMax v (ix2 q k) = Finset.univ.sup fun l : Fin 1024 => v (ix2 q l) := by
  pointwise [rowMax]
  rw [bits_negInf]
  rfl

/-- Marks in each row the column of the first largest entry, as the kernel finds it from the negated column numbers `n`. -/
def hitV (n v : FVec Ideal S1024x1024 .f32) : IVec S1024x1024 1 :=
  cmpf .oeq n (rowMax (select (cmpf .oge v (rowMax v)) n (broadcast S1024x1024 (Scalar.ofBits .f32 0xC5000000#32))))

/-- The entries with the marked ones struck out. -/
def strikeV (h : IVec S1024x1024 1) (v : FVec Ideal S1024x1024 .f32) : FVec Ideal S1024x1024 .f32 :=
  select h (broadcast S1024x1024 (Scalar.ofBits .f32 0xFF800000#32)) v

/-- The features at each row's marked column. -/
def pickV (h : IVec S1024x1024 1) (f : FVec Ideal S1024x16 .f32) : FVec Ideal S1024x16 .f32 :=
  matmul dot_S1024x1024_S1024x16_S1024x16_1_0_0_1_n_n none
    (select h (broadcast S1024x1024 (Scalar.ofBits .f32 0x3F800000#32)) (broadcast S1024x1024 (Scalar.ofBits .f32 0x00000000#32)))
    f (constant S1024x16 .f32 0x00000000#32)

/-- The largest of the candidates' negated column numbers is that of the first largest entry. -/
theorem sup_candidates {w : Fin 1024 → EReal} {p : Fin 1024} (hp : IsFirstMax w p) :
    (Finset.univ.sup fun k : Fin 1024 => if w p ≤ w k then ((-(k.val : ℝ) : ℝ) : EReal) else ((-2048 : ℝ) : EReal))
      = ((-(p.val : ℝ) : ℝ) : EReal) := by
  apply le_antisymm
  · refine Finset.sup_le fun k _ => ?_
    split_ifs with h
    · have := hp.2 k h
      exact EReal.coe_le_coe_iff.mpr (neg_le_neg (by exact_mod_cast this))
    · refine EReal.coe_le_coe_iff.mpr (neg_le_neg ?_)
      have : (p.val : ℝ) < 1024 := by exact_mod_cast p.isLt
      linarith
  · refine le_trans (le_of_eq ?_) (Finset.le_sup (Finset.mem_univ p))
    simp

/-- The largest entry is the one at the first largest column. -/
theorem sup_firstMax {w : Fin 1024 → EReal} {p : Fin 1024} (hp : IsFirstMax w p) : Finset.univ.sup w = w p :=
  le_antisymm (Finset.sup_le fun k _ => hp.1 k) (Finset.le_sup (Finset.mem_univ p))

/-- The marked column of a row is the column of its first largest entry. -/
theorem hitV_apply (v : FVec Ideal S1024x1024 .f32) (q p : Fin 1024) (hp : IsFirstMax (fun k => v (ix2 q k)) p) (k : Fin 1024) :
    hitV (k0_pay5 (F := Ideal)) v (ix2 q k) = if k = p then 1#1 else 0#1 := by
  have hc : ∀ l : Fin 1024, select (cmpf .oge v (rowMax v)) (k0_pay5 (F := Ideal)) (broadcast S1024x1024 (Scalar.ofBits .f32 0xC5000000#32)) (ix2 q l)
      = if v (ix2 q p) ≤ v (ix2 q l) then ((-(l.val : ℝ) : ℝ) : EReal) else ((-2048 : ℝ) : EReal) := by
    intro l
    pointwise [rowMax_apply, negCol_apply]
    rw [sup_firstMax hp, bits_noColumn]
  have e : hitV (k0_pay5 (F := Ideal)) v (ix2 q k) = BitVec.ofBool (decide (k0_pay5 (F := Ideal) (ix2 q k)
      = rowMax (select (cmpf .oge v (rowMax v)) (k0_pay5 (F := Ideal)) (broadcast S1024x1024 (Scalar.ofBits .f32 0xC5000000#32))) (ix2 q k))) := by
    pointwise [hitV]
  rw [e, rowMax_apply, negCol_apply]
  simp only [hc]
  rw [sup_candidates hp]
  by_cases hk : k = p
  · simp [hk]
  · have : ¬ (((-(k.val : ℝ) : ℝ) : EReal) = ((-(p.val : ℝ) : ℝ) : EReal)) := by
      intro h
      have h' := neg_injective (EReal.coe_injective h)
      exact hk (Fin.ext (by exact_mod_cast h'))
    rw [decide_eq_false this, if_neg hk]; rfl

/-- Striking out puts the least extended real at the marked entries and leaves the others. -/
theorem strikeV_apply (h : IVec S1024x1024 1) (v : FVec Ideal S1024x1024 .f32) (q k : Fin 1024) :
    strikeV h v (ix2 q k) = Scalar.select (h (ix2 q k)) (⊥ : EReal) (v (ix2 q k)) := by
  pointwise [strikeV]
  rw [bits_negInf]

/-- The product of the marks with the features is the features of the marked column. -/
theorem pickV_apply (h : IVec S1024x1024 1) (f : FVec Ideal S1024x16 .f32) (q p : Fin 1024)
    (hp : ∀ k, h (ix2 q k) = if k = p then 1#1 else 0#1) (c : Fin 16) :
    pickV h f (ix2 q c) = f (ix2 p c) := by
  pointwise [pickV]
  simp only [hp, Scalar.select]
  rw [Finset.sum_eq_single p]
  · simp
  · intro b _ hb; simp [hb]
  · intro hn; exact absurd (Finset.mem_univ p) hn

/-- The similarities left after `r` rounds. -/
def leftV (v : FVec Ideal S1024x1024 .f32) : Nat → FVec Ideal S1024x1024 .f32
  | 0 => v
  | r + 1 => strikeV (hitV (k0_pay5 (F := Ideal)) (leftV v r)) (leftV v r)

/-- After `r` rounds the first `r` columns of a row's ranking are struck out. -/
theorem leftV_apply (v : FVec Ideal S1024x1024 .f32) (q : Fin 1024) (hv : ∀ k, v (ix2 q k) ≠ (⊥ : EReal)) :
    ∀ r : Nat, r ≤ 1024 → ∀ k : Fin 1024, leftV v r (ix2 q k) = struck (fun l => v (ix2 q l)) r k
  | 0, _, k => by rw [struck_zero]; rfl
  | r + 1, hr, k => by
    have ih := leftV_apply v q hv r (by omega)
    have hf := struck_isFirstMax (s := fun l : Fin 1024 => (v (ix2 q l) : EReal)) hv (⟨r, hr⟩ : Fin 1024)
    have hfm : IsFirstMax (fun l : Fin 1024 => leftV v r (ix2 q l)) (ranked (fun l : Fin 1024 => (v (ix2 q l) : EReal)) ⟨r, hr⟩) := by
      convert hf using 1
      exact funext ih
    have hs := struck_succ (fun l : Fin 1024 => (v (ix2 q l) : EReal)) ⟨r, hr⟩ k
    rw [show leftV v (r + 1) = strikeV (hitV (k0_pay5 (F := Ideal)) (leftV v r)) (leftV v r) from rfl, strikeV_apply,
      hitV_apply (leftV v r) q _ hfm, ih k]
    refine Eq.trans ?_ hs.symm
    simp only [Scalar.select]
    split_ifs <;> simp_all

/-- Round `r` marks the column ranked `r`. -/
theorem hit_leftV (v : FVec Ideal S1024x1024 .f32) (q : Fin 1024) (hv : ∀ k, v (ix2 q k) ≠ (⊥ : EReal)) (r : Fin 1024) (k : Fin 1024) :
    hitV (k0_pay5 (F := Ideal)) (leftV v r) (ix2 q k) = if k = ranked (fun l : Fin 1024 => (v (ix2 q l) : EReal)) r then 1#1 else 0#1 := by
  refine hitV_apply (leftV v r) q _ ?_ k
  convert struck_isFirstMax (s := fun l : Fin 1024 => (v (ix2 q l) : EReal)) hv r using 1
  exact funext (leftV_apply v q hv r r.isLt.le)

/-- Round `r` picks the features of the column ranked `r`. -/
theorem pick_leftV (v : FVec Ideal S1024x1024 .f32) (f : FVec Ideal S1024x16 .f32) (q : Fin 1024)
    (hv : ∀ k, v (ix2 q k) ≠ (⊥ : EReal)) (r : Fin 1024) (c : Fin 16) :
    pickV (hitV (k0_pay5 (F := Ideal)) (leftV v r)) f (ix2 q c)
      = f (ix2 (ranked (fun l : Fin 1024 => (v (ix2 q l) : EReal)) r) c) :=
  pickV_apply _ f q _ (hit_leftV v q hv r) c

end Cert.KernelIdeal.Net

end
-- ==== Proof.Search.lean ====
/- The nine rounds of each layer's nearest-neighbour search, as the feature kernel's steps spell them: each step is a
   round's marks, the features picked, their product with the round's weights, and the similarities struck out. -/
module

public import proofs.«01_k».proof.Proof.Rounds

@[expose] public section

set_option maxRecDepth 16384

noncomputable section

namespace Cert.KernelIdeal.Net

open Idealize.ShloMosaic Idealize.ShloMosaic.TcCoe
open Cert.KernelIdeal Cert.KernelIdeal.Gen Cert.Net

/-- The similarities after one more round. -/
def nextV (n u : FVec Ideal S1024x1024 .f32) : FVec Ideal S1024x1024 .f32 := strikeV (hitV n u) u

/-- Each row's largest entry, as a column. -/
def colMax (u : FVec Ideal S1024x1024 .f32) : FVec Ideal S1024x1 .f32 :=
  shapeCast S1024x1 (multiReduction .maximumf [1] S1024 u 0xFF800000#32 reduces_S1024x1024_S1024 (.inl rfl) rfl) shapeCasts_S1024_S1024x1

/-- The entries that are their row's largest. -/
def candV (u : FVec Ideal S1024x1024 .f32) : IVec S1024x1024 1 := cmpf .oge u (rowMax u)

/-- The negated column numbers of those entries, and -2048 elsewhere. -/
def nameV (n u : FVec Ideal S1024x1024 .f32) : FVec Ideal S1024x1024 .f32 :=
  select (candV u) n (broadcast S1024x1024 (Scalar.ofBits .f32 0xC5000000#32))

/-- One round's contribution in the first layer: the picked features times the round's weights. -/
def term8 (h : IVec S1024x1024 1) (f : FVec Ideal S1024x16 .f32) (w : Vec Ideal S1x16x8 .f32) : FVec Ideal S1024x8 .f32 :=
  matmul dot_S1024x16_S16x8_S1024x8_1_0_0_1_n_n none (pickV h f) (φ₂ := .f32) (shapeCast S16x8 w shapeCasts_S1x16x8_S16x8)
    (constant S1024x8 .f32 0x00000000#32)

/-- One round's contribution in the second layer. -/
def term16 (h : IVec S1024x1024 1) (f : FVec Ideal S1024x16 .f32) (w : Vec Ideal S1x16x16 .f32) : FVec Ideal S1024x16 .f32 :=
  matmul dot_S1024x16_S16x16_S1024x16_1_0_0_1_n_n none (pickV h f) (φ₂ := .f32) (shapeCast S16x16 w shapeCasts_S1x16x16_S16x16)
    (constant S1024x16 .f32 0x00000000#32)

variable (n u : FVec Ideal S1024x1024 .f32) (f : FVec Ideal S1024x16 .f32)

theorem pay19_eq : k0_pay19 n f = hitV n (k0_pay17 f) := (rfl)

theorem pay22_eq (acc : FVec Ideal S1024x8 .f32) (w w' : Vec Ideal S1x16x8 .f32) :
    k0_pay22 n f u acc (hitV n u) (Scalar.ofBits .f32 0x3F800000#32) w w' = addf (addf acc (term8 (hitV n u) f w)) (term8 (hitV n (nextV n u)) f w') := (rfl)

theorem pay23_eq : k0_pay23 n u (hitV n u) = nextV n (nextV n u) := (rfl)

theorem pay24_eq : k0_pay24 n u (hitV n u) = rowMax (nameV n (nextV n (nextV n u))) := (rfl)

theorem pay28_eq (acc : FVec Ideal S1024x8 .f32) (w w' : Vec Ideal S1x16x8 .f32) :
    k0_pay28 n f acc u (rowMax (nameV n u)) w w' = addf (addf acc (term8 (hitV n u) f w)) (term8 (hitV n (nextV n u)) f w') := (rfl)

theorem pay29_eq : k0_pay29 n u (rowMax (nameV n u)) = nextV n (nextV n u) := (rfl)

theorem pay30_eq : k0_pay30 n u (rowMax (nameV n u)) = multiReduction .maximumf [1] S1024 (nameV n (nextV n (nextV n u))) 0xFF800000#32 reduces_S1024x1024_S1024 (.inl rfl) rfl := (rfl)

theorem pay34_eq (acc : FVec Ideal S1024x8 .f32) (w w' : Vec Ideal S1x16x8 .f32) :
    k0_pay34 n f acc u (multiReduction .maximumf [1] S1024 (nameV n u) 0xFF800000#32 reduces_S1024x1024_S1024 (.inl rfl) rfl) w w'
      = addf (addf acc (term8 (hitV n u) f w)) (term8 (hitV n (nextV n u)) f w') := (rfl)

theorem pay35_eq : k0_pay35 n u (multiReduction .maximumf [1] S1024 (nameV n u) 0xFF800000#32 reduces_S1024x1024_S1024 (.inl rfl) rfl)
    = nextV n (nextV n u) := (rfl)

theorem pay36_eq : k0_pay36 n u (multiReduction .maximumf [1] S1024 (nameV n u) 0xFF800000#32 reduces_S1024x1024_S1024 (.inl rfl) rfl)
    = nameV n (nextV n (nextV n u)) := (rfl)

theorem pay40_eq (acc : FVec Ideal S1024x8 .f32) (w w' : Vec Ideal S1x16x8 .f32) :
    k0_pay40 n f acc u (nameV n u) w w' = addf (addf acc (term8 (hitV n u) f w)) (term8 (hitV n (nextV n u)) f w') := (rfl)

theorem pay41_eq : k0_pay41 n u (nameV n u) = candV (nextV n (nextV n u)) := (rfl)

theorem pay42_eq (b : FVec Ideal S1x8 .f32) (cv acc : FVec Ideal S1024x8 .f32) (w : Vec Ideal S1x16x8 .f32) :
    k0_pay42 n f b cv acc (candV u) (Scalar.ofBits .f32 0xC5000000#32) w
      = maximumf (concatenate S1024x16 1 [⟨S1024x8, cv⟩, ⟨S1024x8, addf (addf acc (term8 (hitV n u) f w)) (broadcastTo S1024x8 b broadcasts_S1x8_S1024x8)⟩]
          concatenates_S1024x8_S1024x8_S1024x16_d1) (broadcast S1024x16 (Scalar.ofBits .f32 0x00000000#32)) := (rfl)

theorem pay53_eq : k0_pay53 n f = colMax (nameV n (k0_pay51 f)) := (rfl)

theorem pay57_eq (acc : FVec Ideal S1024x16 .f32) (w w' : Vec Ideal S1x16x16 .f32) :
    k0_pay57 n f u acc (colMax (nameV n u)) w w' = addf (addf acc (term16 (hitV n u) f w)) (term16 (hitV n (nextV n u)) f w') := (rfl)

theorem pay58_eq : k0_pay58 n u (colMax (nameV n u)) = nextV n (nextV n u) := (rfl)

theorem pay59_eq : k0_pay59 n u (colMax (nameV n u)) = nameV n (nextV n (nextV n u)) := (rfl)

theorem pay63_eq (acc : FVec Ideal S1024x16 .f32) (w w' : Vec Ideal S1x16x16 .f32) :
    k0_pay63 n f acc u (nameV n u) w w' = addf (addf acc (term16 (hitV n u) f w)) (term16 (hitV n (nextV n u)) f w') := (rfl)

theorem pay64_eq : k0_pay64 n u (nameV n u) = nextV n (nextV n u) := (rfl)

theorem pay65_eq : k0_pay65 n u (nameV n u) = candV (nextV n (nextV n u)) := (rfl)

theorem pay70_eq (acc : FVec Ideal S1024x16 .f32) (w w' : Vec Ideal S1x16x16 .f32) :
    k0_pay70 n f acc u (candV u) (k0_pay66 (F := Ideal)) w w' = addf (addf acc (term16 (hitV n u) f w)) (term16 (hitV n (nextV n u)) f w') := (rfl)

theorem pay71_eq : k0_pay71 n u (candV u) (k0_pay66 (F := Ideal)) = nextV n (nextV n u) := (rfl)

theorem pay72_eq : k0_pay72 n u (candV u) (k0_pay66 (F := Ideal)) = candV (nextV n (nextV n u)) := (rfl)

theorem pay76_eq (acc : FVec Ideal S1024x16 .f32) (w w' : Vec Ideal S1x16x16 .f32) :
    k0_pay76 n f acc u (candV u) w w' = addf (addf acc (term16 (hitV n u) f w)) (term16 (hitV n (nextV n u)) f w') := (rfl)

theorem pay77_eq : k0_pay77 n u (candV u) = nextV n (nextV n u) := (rfl)

theorem pay78_eq : k0_pay78 n u (candV u) = colMax (nextV n (nextV n u)) := (rfl)

/-- The feature kernel's last step: the last round of the second layer, the bias, the two halves side by side, the
    positive part, and the channels put first. -/
theorem pay1_eq (b : FVec Ideal S1x16 .f32) (cv acc : FVec Ideal S1024x16 .f32) (w : Vec Ideal S1x16x16 .f32) :
    k0_pay1 n f b cv acc u (colMax u) w
      = shapeCast S1x32x1024 (transpose S32x1024 [1, 0] (maximumf (concatenate S1024x32 1 [⟨S1024x16, cv⟩,
          ⟨S1024x16, addf (addf acc (term16 (hitV n u) f w)) (broadcastTo S1024x16 b broadcasts_S1x16_S1024x16)⟩]
          concatenates_S1024x16_S1024x16_S1024x32_d1) (broadcast S1024x32 (Scalar.ofBits .f32 0x00000000#32)))
          transposes_S1024x32_p1_0_S32x1024) shapeCasts_S32x1024_S1x32x1024 := (rfl)

end Cert.KernelIdeal.Net

end
-- ==== Proof.Spec.lean ====
/- The mathematics of the network over the extended reals, one image at a time: a layer is a 3x3 convolution of the
   32x32 image beside a weighted sum over each pixel's nine most similar pixels, followed by the positive part. -/
module

public import proofs.«01_k».proof.Proof.TopPick

@[expose] public section

noncomputable section

namespace Cert.Net

/-- Pixel `q` of a feature map, displaced by row `i - 1` and column `j - 1`; zero outside the image. -/
def tap {n : Nat} (f : Fin 1024 → Fin n → EReal) (i j : Fin 3) (q : Fin 1024) (c : Fin n) : EReal :=
  if h : (1 ≤ q.val / 32 + i.val ∧ q.val / 32 + i.val ≤ 32) ∧ 1 ≤ q.val % 32 + j.val ∧ q.val % 32 + j.val ≤ 32 then
    f ⟨(q.val / 32 + i.val - 1) * 32 + (q.val % 32 + j.val - 1), by omega⟩ c
  else 0

/-- The 3x3 convolution with bias at pixel `q`, output channel `o`. -/
def convAt {n m : Nat} (f : Fin 1024 → Fin n → EReal) (w : Fin 3 → Fin 3 → Fin n → Fin m → EReal) (b : Fin m → EReal)
    (q : Fin 1024) (o : Fin m) : EReal :=
  (∑ i, ∑ j, ∑ c, tap f i j q c * w i j c o) + b o

/-- The similarity of two pixels: the inner product of their features. -/
def simAt {n : Nat} (f : Fin 1024 → Fin n → EReal) (q k : Fin 1024) : EReal := ∑ c, f q c * f k c

/-- The pixel ranked `r` in similarity to pixel `q`, of equal ones the first. -/
def near {n : Nat} (f : Fin 1024 → Fin n → EReal) (q : Fin 1024) (r : Fin 9) : Fin 1024 :=
  ranked (simAt f q) (r.castLE (by decide))

/-- The weighted sum over the nine nearest pixels with bias at pixel `q`, output channel `o`. -/
def nearAt {n m : Nat} (f : Fin 1024 → Fin n → EReal) (w : Fin 9 → Fin n → Fin m → EReal) (b : Fin m → EReal)
    (q : Fin 1024) (o : Fin m) : EReal :=
  (∑ r, ∑ c, f (near f q r) c * w r c o) + b o

/-- One layer: the convolution's channels, then the nearest pixels' channels, their positive parts. -/
def layerAt {n m k : Nat} (hk : k = m + m) (f : Fin 1024 → Fin n → EReal) (wc : Fin 3 → Fin 3 → Fin n → Fin m → EReal)
    (bc : Fin m → EReal) (wn : Fin 9 → Fin n → Fin m → EReal) (bn : Fin m → EReal) (q : Fin 1024) (c : Fin k) : EReal :=
  max (if h : c.val < m then convAt f wc bc q ⟨c.val, h⟩ else nearAt f wn bn q ⟨c.val - m, by omega⟩) 0

end Cert.Net

end
-- ==== Proof.Conv.lean ====
/- The feature kernel's convolutions read at an index: the padded copy of the features in the scratch buffer, the column
   masks, and the nine products. -/
module

public import proofs.«01_k».proof.Proof.Search
public import proofs.«01_k».proof.Proof.Spec
public import Idealize.ShloMosaic.Lib.Pipeline.ValueKit
public import Idealize.ShloMosaic.Lib.WholeRead

@[expose] public section

set_option maxRecDepth 16384

noncomputable section

namespace Cert.KernelIdeal.Net

open Idealize.ShloMosaic Idealize.ShloMosaic.TcCoe
open Cert.KernelIdeal Cert.KernelIdeal.Gen Cert.Net

/-- The mask of the left taps: zero in the first column of the image. -/
theorem leftMask_apply (q : Fin 1024) : k0_pay3 (F := Ideal) (ix2 q (0 : Fin 1)) = if 1 ≤ q.val % 32 then 1 else 0 := by
  pointwise [k0_pay3, k0_pay2]
  have h : (BitVec.setWidth 32 (IntOp.cmpi CmpIPredicate.sge (IntOp.remsi ArithUnit.vector (BitVec.ofNat 32 q.val) 32#32) 1#32)).toInt
      = if 1 ≤ q.val % 32 then 1 else 0 := by
    revert q; decide +kernel
  show (((BitVec.setWidth 32 _).toInt : ℝ) : EReal) = _
  rw [h]
  split_ifs <;> simp

/-- The mask of the right taps: zero in the last column of the image. -/
theorem rightMask_apply (q : Fin 1024) : k0_pay4 (F := Ideal) (ix2 q (0 : Fin 1)) = if q.val % 32 ≤ 30 then 1 else 0 := by
  pointwise [k0_pay4, k0_pay2]
  have h : (BitVec.setWidth 32 (IntOp.cmpi CmpIPredicate.sle (IntOp.remsi ArithUnit.vector (BitVec.ofNat 32 q.val) 32#32) 30#32)).toInt
      = if q.val % 32 ≤ 30 then 1 else 0 := by
    revert q; decide +kernel
  show (((BitVec.setWidth 32 _).toInt : ℝ) : EReal) = _
  rw [h]
  split_ifs <;> simp

/-- The scratch buffer's rows from row `o` on: the features from row 36 on, zero above and below them. -/
def rowsV (f : FVec Ideal S1024x16 .f32) (o : Nat) : FVec Ideal S1024x16 .f32 := fun i =>
  if h : 36 ≤ o + (i 0).val ∧ o + (i 0).val < 1060 then f (ix2 (⟨o + (i 0).val - 36, by omega⟩ : Fin 1024) (i 1)) else 0

/-- A load of the scratch buffer after it was cleared and the features stored at row 36. -/
theorem readCov_rows (v : View sig .tc .vmem S1096x16 .f32) (f : FVec Ideal S1024x16 .f32) (Z : FVec Ideal S1096x16 .f32)
    (hZ : ∀ i, Z i = 0) (L : List (View.Piece (Elt Ideal) S1096x16 .f32)) (o : Nat) (ho : o ≤ 72)
    (inb36 : ∀ a, (![36, 0] : Fin 2 → Nat) a + S1024x16.size a ≤ S1096x16.size a)
    (inb0 : ∀ a, (![0, 0] : Fin 2 → Nat) a + S1096x16.size a ≤ S1096x16.size a)
    (inb : ∀ a, (![o, 0] : Fin 2 → Nat) a + S1024x16.size a ≤ S1096x16.size a) :
    v.readCov (⟨Rect.unit (s := S1096x16) ![36, 0] S1024x16.size inb36, f⟩ :: ⟨Rect.unit (s := S1096x16) ![0, 0] S1096x16.size inb0, Z⟩ :: L)
      (Rect.unit (s := S1096x16) ![o, 0] S1024x16.size inb).toLoadRect = rowsV f o := by
  rw [View.readCov_eq_canon']
  funext i
  unfold rowsV
  split_ifs with h
  · have e : (Rect.unit (s := S1096x16) ![o, 0] S1024x16.size inb).toLoadRect.idx i
        = (Rect.unit (s := S1096x16) ![36, 0] S1024x16.size inb36).emb (ix2 (⟨o + (i 0).val - 36, by omega⟩ : Fin 1024) (i 1)) := by
      funext a; apply Fin.ext
      fin_cases a
      · show o + 1 * (i 0).val = 36 + 1 * (o + (i 0).val - 36); omega
      · show 0 + 1 * (i 1).val = 0 + 1 * (i 1).val; rfl
    rw [e, View.canon_cons_emb]
  · rw [View.canon_cons_of_not_mem]
    · have e : (Rect.unit (s := S1096x16) ![o, 0] S1024x16.size inb).toLoadRect.idx i
          = (Rect.unit (s := S1096x16) ![0, 0] S1096x16.size inb0).emb ((Rect.unit (s := S1096x16) ![o, 0] S1024x16.size inb).toLoadRect.idx i) := by
        funext a; apply Fin.ext
        fin_cases a
        · show o + 1 * (i 0).val = 0 + 1 * (o + 1 * (i 0).val); omega
        · show 0 + 1 * (i 1).val = 0 + 1 * (0 + 1 * (i 1).val); omega
      rw [e, View.canon_cons_emb]
      exact hZ _
    · have h0 : (i 0).val < 1024 := (i 0).isLt
      refine Rect.not_mem_set_of_axis _ _ (0 : Fin 2) 36 1024 rfl rfl rfl ?_
      show o + 1 * (i 0).val < 36 ∨ 36 + 1024 ≤ o + 1 * (i 0).val
      omega

/-- The weights of tap or rank `k` in the first layer. -/
def slab8 (x : Vec Ideal S9x16x8 .f32) (k : Fin 9) : Vec Ideal S1x16x8 .f32 := fun i => x (ix3 k (i 1) (i 2))

/-- The weights of tap or rank `k` in the second layer. -/
def slab16 (x : Vec Ideal S9x16x16 .f32) (k : Fin 9) : Vec Ideal S1x16x16 .f32 := fun i => x (ix3 k (i 1) (i 2))

theorem readAt_slab8 {m : Memref sig .tc .vmem S9x16x8 .f32} (h : m.IsWhole) (x : Vec Ideal S9x16x8 .f32) (k : Fin 9)
    (inb : ∀ a, (![k.val, 0, 0] : Fin 3 → Nat) a + S1x16x8.size a ≤ S9x16x8.size a) :
    View.readAt (Elt Ideal) m.view (Rect.unit (s := S9x16x8) ![k.val, 0, 0] S1x16x8.size inb).toLoadRect (h.unread x) = slab8 x k := by
  funext i
  rw [h.readAt_unread]
  refine congrArg x ?_
  have h0 : (i 0).val < 1 := (i 0).isLt
  funext a; apply Fin.ext
  fin_cases a
  · show k.val + 1 * (i 0).val = k.val; omega
  · show 0 + 1 * (i 1).val = (i 1).val; omega
  · show 0 + 1 * (i 2).val = (i 2).val; omega

theorem readAt_slab16 {m : Memref sig .tc .vmem S9x16x16 .f32} (h : m.IsWhole) (x : Vec Ideal S9x16x16 .f32) (k : Fin 9)
    (inb : ∀ a, (![k.val, 0, 0] : Fin 3 → Nat) a + S1x16x16.size a ≤ S9x16x16.size a) :
    View.readAt (Elt Ideal) m.view (Rect.unit (s := S9x16x16) ![k.val, 0, 0] S1x16x16.size inb).toLoadRect (h.unread x) = slab16 x k := by
  funext i
  rw [h.readAt_unread]
  refine congrArg x ?_
  have h0 : (i 0).val < 1 := (i 0).isLt
  funext a; apply Fin.ext
  fin_cases a
  · show k.val + 1 * (i 0).val = k.val; omega
  · show 0 + 1 * (i 1).val = (i 1).val; omega
  · show 0 + 1 * (i 2).val = (i 2).val; omega

theorem rowsV_tap (f : FVec Ideal S1024x16 .f32) (o : Nat) (i j : Fin 3) (ho : o = 3 + 32 * i.val + j.val) (q : Fin 1024) (c : Fin 16)
    (hj : 1 ≤ q.val % 32 + j.val ∧ q.val % 32 + j.val ≤ 32) :
    rowsV f o (ix2 q c) = tap (fun q c => f (ix2 q c)) i j q c := by
  unfold rowsV tap
  by_cases h : 1 ≤ q.val / 32 + i.val ∧ q.val / 32 + i.val ≤ 32
  · have h1 : 36 ≤ o + ((ix2 q c : S1024x16.Idx) 0).val ∧ o + ((ix2 q c : S1024x16.Idx) 0).val < 1060 := by
      show 36 ≤ o + q.val ∧ o + q.val < 1060
      omega
    rw [dif_pos h1, dif_pos ⟨h, hj⟩]
    have e : (⟨o + ((ix2 q c : S1024x16.Idx) 0).val - 36, by omega⟩ : Fin 1024)
        = ⟨(q.val / 32 + i.val - 1) * 32 + (q.val % 32 + j.val - 1), by omega⟩ := by
      apply Fin.ext
      show o + q.val - 36 = (q.val / 32 + i.val - 1) * 32 + (q.val % 32 + j.val - 1)
      omega
    rw [e]
    rfl
  · have h1 : ¬ (36 ≤ o + ((ix2 q c : S1024x16.Idx) 0).val ∧ o + ((ix2 q c : S1024x16.Idx) 0).val < 1060) := by
      show ¬ (36 ≤ o + q.val ∧ o + q.val < 1060)
      have := i.isLt
      omega
    rw [dif_neg h1, dif_neg (fun k => h k.1)]

theorem mid_sum {m : Nat} (f : FVec Ideal S1024x16 .f32) (o : Nat) (i : Fin 3) (ho : o = 3 + 32 * i.val + 1) (q : Fin 1024)
    (w : Fin 16 → Fin m → EReal) (p : Fin m) :
    ∑ c, rowsV f o (ix2 q c) * w c p = ∑ c, tap (fun q c => f (ix2 q c)) i 1 q c * w c p := by
  refine Finset.sum_congr rfl fun c _ => ?_
  rw [rowsV_tap f o i 1 ho q c ⟨by show 1 ≤ q.val % 32 + 1; omega, by show q.val % 32 + 1 ≤ 32; omega⟩]

theorem left_sum {m : Nat} (f : FVec Ideal S1024x16 .f32) (o : Nat) (i : Fin 3) (ho : o = 3 + 32 * i.val) (q : Fin 1024)
    (w : Fin 16 → Fin m → EReal) (p : Fin m) :
    (∑ c, rowsV f o (ix2 q c) * w c p) * (if 1 ≤ q.val % 32 then 1 else 0) = ∑ c, tap (fun q c => f (ix2 q c)) i 0 q c * w c p := by
  split_ifs with h
  · rw [mul_one]
    refine Finset.sum_congr rfl fun c _ => ?_
    rw [rowsV_tap f o i 0 ho q c ⟨by show 1 ≤ q.val % 32 + 0; omega, by show q.val % 32 + 0 ≤ 32; omega⟩]
  · rw [mul_zero]
    symm
    refine Finset.sum_eq_zero fun c _ => ?_
    rw [tap, dif_neg (fun k => h k.2.1), zero_mul]

theorem right_sum {m : Nat} (f : FVec Ideal S1024x16 .f32) (o : Nat) (i : Fin 3) (ho : o = 3 + 32 * i.val + 2) (q : Fin 1024)
    (w : Fin 16 → Fin m → EReal) (p : Fin m) :
    (∑ c, rowsV f o (ix2 q c) * w c p) * (if q.val % 32 ≤ 30 then 1 else 0) = ∑ c, tap (fun q c => f (ix2 q c)) i 2 q c * w c p := by
  split_ifs with h
  · rw [mul_one]
    refine Finset.sum_congr rfl fun c _ => ?_
    rw [rowsV_tap f o i 2 ho q c ⟨by show 1 ≤ q.val % 32 + 2; omega, by show q.val % 32 + 2 ≤ 32; omega⟩]
  · rw [mul_zero]
    symm
    refine Finset.sum_eq_zero fun c _ => ?_
    rw [tap, dif_neg (fun k => h (by have := k.2.2; change q.val % 32 + 2 ≤ 32 at this; omega)), zero_mul]

/-- Nine masked products and the bias are the convolution. -/
theorem nine_conv {m : Nat} (f : FVec Ideal S1024x16 .f32) (w : Fin 9 → Fin 16 → Fin m → EReal) (b : Fin m → EReal) (q : Fin 1024) (p : Fin m) :
    (((((((((∑ c, rowsV f 3 (ix2 q c) * w 0 c p) * (if 1 ≤ q.val % 32 then 1 else 0)
      + ∑ c, rowsV f 4 (ix2 q c) * w 1 c p)
      + (∑ c, rowsV f 5 (ix2 q c) * w 2 c p) * (if q.val % 32 ≤ 30 then 1 else 0))
      + (∑ c, rowsV f 35 (ix2 q c) * w 3 c p) * (if 1 ≤ q.val % 32 then 1 else 0))
      + ∑ c, rowsV f 36 (ix2 q c) * w 4 c p)
      + (∑ c, rowsV f 37 (ix2 q c) * w 5 c p) * (if q.val % 32 ≤ 30 then 1 else 0))
      + (∑ c, rowsV f 67 (ix2 q c) * w 6 c p) * (if 1 ≤ q.val % 32 then 1 else 0))
      + ∑ c, rowsV f 68 (ix2 q c) * w 7 c p)
      + (∑ c, rowsV f 69 (ix2 q c) * w 8 c p) * (if q.val % 32 ≤ 30 then 1 else 0))
      + b p
    = convAt (fun q c => f (ix2 q c)) (fun i j c o => w (⟨3 * i.val + j.val, by omega⟩ : Fin 9) c o) b q p := by
  rw [left_sum f 3 0 rfl, mid_sum f 4 0 rfl, right_sum f 5 0 rfl, left_sum f 35 1 rfl, mid_sum f 36 1 rfl, right_sum f 37 1 rfl,
    left_sum f 67 2 rfl, mid_sum f 68 2 rfl, right_sum f 69 2 rfl]
  unfold convAt
  simp only [Fin.sum_univ_three, ← add_assoc]
  rfl

/-- The first layer's convolution as the kernel's steps compose it. -/
def conv8 (f : FVec Ideal S1024x16 .f32) (x : Vec Ideal S9x16x8 .f32) (b : FVec Ideal S1x8 .f32) : FVec Ideal S1024x8 .f32 :=
  k0_pay16 (k0_pay3 (F := Ideal)) (k0_pay4 (F := Ideal)) b
    (k0_pay14 (k0_pay3 (F := Ideal)) (k0_pay4 (F := Ideal)) (k0_pay11 (F := Ideal)) (k0_pay12 (rowsV f 3) (slab8 x 0)) (k0_pay13 (F := Ideal))
      (rowsV f 4) (slab8 x 1) (rowsV f 5) (slab8 x 2) (rowsV f 35) (slab8 x 3) (rowsV f 36) (slab8 x 4))
    (k0_pay15 (rowsV f 37) (slab8 x 5)) (rowsV f 67) (slab8 x 6) (rowsV f 68) (slab8 x 7) (rowsV f 69) (slab8 x 8)

theorem conv8_apply (f : FVec Ideal S1024x16 .f32) (x : Vec Ideal S9x16x8 .f32) (b : FVec Ideal S1x8 .f32) (q : Fin 1024) (o : Fin 8) :
    conv8 f x b (ix2 q o) = convAt (fun q c => f (ix2 q c)) (fun i j c o => x (ix3 (⟨3 * i.val + j.val, by omega⟩ : Fin 9) c o)) (fun o => b (ix2 0 o)) q o := by
  pointwise [conv8, k0_pay16, k0_pay14, k0_pay12, k0_pay13, k0_pay11, k0_pay15, leftMask_apply, rightMask_apply]
  exact nine_conv f (fun k c o => x (ix3 k c o)) (fun o => b (ix2 0 o)) q o

/-- The second layer's convolution as the kernel's steps compose it. -/
def conv16 (f : FVec Ideal S1024x16 .f32) (x : Vec Ideal S9x16x16 .f32) (b : FVec Ideal S1x16 .f32) : FVec Ideal S1024x16 .f32 :=
  k0_pay50 (k0_pay3 (F := Ideal)) (k0_pay4 (F := Ideal)) b
    (k0_pay49 (k0_pay3 (F := Ideal)) (k0_pay4 (F := Ideal)) (k0_pay47 (F := Ideal)) (rowsV f 3) (k0_pay48 (slab16 x 0))
      (rowsV f 4) (slab16 x 1) (rowsV f 5) (slab16 x 2) (rowsV f 35) (slab16 x 3) (rowsV f 36) (slab16 x 4))
    (rowsV f 37) (slab16 x 5) (rowsV f 67) (slab16 x 6) (rowsV f 68) (slab16 x 7) (rowsV f 69) (slab16 x 8)

theorem conv16_apply (f : FVec Ideal S1024x16 .f32) (x : Vec Ideal S9x16x16 .f32) (b : FVec Ideal S1x16 .f32) (q : Fin 1024) (o : Fin 16) :
    conv16 f x b (ix2 q o) = convAt (fun q c => f (ix2 q c)) (fun i j c o => x (ix3 (⟨3 * i.val + j.val, by omega⟩ : Fin 9) c o)) (fun o => b (ix2 0 o)) q o := by
  pointwise [conv16, k0_pay50, k0_pay49, k0_pay48, k0_pay47, leftMask_apply, rightMask_apply]
  exact nine_conv f (fun k c o => x (ix3 k c o)) (fun o => b (ix2 0 o)) q o

end Cert.KernelIdeal.Net

end
-- ==== Proof.Nearest.lean ====
/- The feature kernel's nearest-neighbour sums and a whole layer read at an index. -/
module

public import proofs.«01_k».proof.Proof.Conv

@[expose] public section

set_option maxRecDepth 16384

noncomputable section

namespace Cert.KernelIdeal.Net

open Idealize.ShloMosaic Idealize.ShloMosaic.TcCoe
open Cert.KernelIdeal Cert.KernelIdeal.Gen Cert.Net

/-- The first `k` rounds' contributions in the first layer. -/
def sum8 (f : FVec Ideal S1024x16 .f32) (x : Vec Ideal S9x16x8 .f32) : Nat → FVec Ideal S1024x8 .f32
  | 0 => k0_pay18 (F := Ideal)
  | k + 1 => addf (sum8 f x k) (term8 (hitV (k0_pay5 (F := Ideal)) (leftV (k0_pay17 f) k)) f (slab8 x (Fin.ofNat 9 k)))

/-- The first `k` rounds' contributions in the second layer. -/
def sum16 (f : FVec Ideal S1024x16 .f32) (x : Vec Ideal S9x16x16 .f32) : Nat → FVec Ideal S1024x16 .f32
  | 0 => k0_pay52 (F := Ideal)
  | k + 1 => addf (sum16 f x k) (term16 (hitV (k0_pay5 (F := Ideal)) (leftV (k0_pay17 f) k)) f (slab16 x (Fin.ofNat 9 k)))

theorem sims_apply (f : FVec Ideal S1024x16 .f32) (q k : Fin 1024) : k0_pay17 f (ix2 q k) = simAt (fun q c => f (ix2 q c)) q k := by
  pointwise [k0_pay17]
  rfl

theorem prod8_apply (g : FVec Ideal S1024x16 .f32) (w : Vec Ideal S1x16x8 .f32) (q : Fin 1024) (o : Fin 8) :
    matmul dot_S1024x16_S16x8_S1024x8_1_0_0_1_n_n none g (φ₂ := .f32) (shapeCast S16x8 w shapeCasts_S1x16x8_S16x8)
      (constant S1024x8 .f32 0x00000000#32) (ix2 q o) = ∑ c, g (ix2 q c) * w (ix3 0 c o) := by
  pointwise []

theorem prod16_apply (g : FVec Ideal S1024x16 .f32) (w : Vec Ideal S1x16x16 .f32) (q : Fin 1024) (o : Fin 16) :
    matmul dot_S1024x16_S16x16_S1024x16_1_0_0_1_n_n none g (φ₂ := .f32) (shapeCast S16x16 w shapeCasts_S1x16x16_S16x16)
      (constant S1024x16 .f32 0x00000000#32) (ix2 q o) = ∑ c, g (ix2 q c) * w (ix3 0 c o) := by
  pointwise []

/-- What a round picks, its rank told by a number below 1024. -/
theorem picked (f : FVec Ideal S1024x16 .f32) (q : Fin 1024) (hv : ∀ k, simAt (fun q c => f (ix2 q c)) q k ≠ ⊥) (r : Fin 1024) (c : Fin 16) :
    pickV (hitV (k0_pay5 (F := Ideal)) (leftV (k0_pay17 f) r)) f (ix2 q c) = f (ix2 (ranked (simAt (fun q c => f (ix2 q c)) q) r) c) := by
  have e : (fun l : Fin 1024 => (k0_pay17 f (ix2 q l) : EReal)) = simAt (fun q c => f (ix2 q c)) q := funext fun l => sims_apply f q l
  rw [pick_leftV (k0_pay17 f) f q (fun l => by rw [sims_apply]; exact hv l) r c, e]

theorem term8_apply (f : FVec Ideal S1024x16 .f32) (x : Vec Ideal S9x16x8 .f32) (q : Fin 1024)
    (hv : ∀ k, simAt (fun q c => f (ix2 q c)) q k ≠ ⊥) (r : Fin 1024) (k : Fin 9) (o : Fin 8) :
    term8 (hitV (k0_pay5 (F := Ideal)) (leftV (k0_pay17 f) r)) f (slab8 x k) (ix2 q o)
      = ∑ c, f (ix2 (ranked (simAt (fun q c => f (ix2 q c)) q) r) c) * x (ix3 k c o) :=
  (prod8_apply (pickV (hitV (k0_pay5 (F := Ideal)) (leftV (k0_pay17 f) r)) f) (slab8 x k) q o).trans
    (Finset.sum_congr rfl fun c _ => by rw [picked f q hv r c]; rfl)

theorem term16_apply (f : FVec Ideal S1024x16 .f32) (x : Vec Ideal S9x16x16 .f32) (q : Fin 1024)
    (hv : ∀ k, simAt (fun q c => f (ix2 q c)) q k ≠ ⊥) (r : Fin 1024) (k : Fin 9) (o : Fin 16) :
    term16 (hitV (k0_pay5 (F := Ideal)) (leftV (k0_pay17 f) r)) f (slab16 x k) (ix2 q o)
      = ∑ c, f (ix2 (ranked (simAt (fun q c => f (ix2 q c)) q) r) c) * x (ix3 k c o) :=
  (prod16_apply (pickV (hitV (k0_pay5 (F := Ideal)) (leftV (k0_pay17 f) r)) f) (slab16 x k) q o).trans
    (Finset.sum_congr rfl fun c _ => by rw [picked f q hv r c]; rfl)

theorem sum8_zero (f : FVec Ideal S1024x16 .f32) (x : Vec Ideal S9x16x8 .f32) (q : Fin 1024) (o : Fin 8) : sum8 f x 0 (ix2 q o) = 0 := by
  unfold sum8
  pointwise [k0_pay18]

theorem sum8_succ (f : FVec Ideal S1024x16 .f32) (x : Vec Ideal S9x16x8 .f32) (q : Fin 1024) (o : Fin 8) (n : Nat) :
    sum8 f x (n + 1) (ix2 q o) = sum8 f x n (ix2 q o)
      + term8 (hitV (k0_pay5 (F := Ideal)) (leftV (k0_pay17 f) n)) f (slab8 x (Fin.ofNat 9 n)) (ix2 q o) := (rfl)

theorem sum8_apply (f : FVec Ideal S1024x16 .f32) (x : Vec Ideal S9x16x8 .f32) (q : Fin 1024)
    (hv : ∀ k, simAt (fun q c => f (ix2 q c)) q k ≠ ⊥) (o : Fin 8) (n : Nat) (hn : n ≤ 9) :
    sum8 f x n (ix2 q o) = ∑ r : Fin n, ∑ c, f (ix2 (near (fun q c => f (ix2 q c)) q (r.castLE hn)) c) * x (ix3 (r.castLE hn) c o) := by
  induction n with
  | zero => rw [Finset.univ_eq_empty, Finset.sum_empty]; exact sum8_zero f x q o
  | succ n ih =>
    rw [Fin.sum_univ_castSucc]
    rw [sum8_succ, ih (by omega)]
    refine congrArg₂ (· + ·) rfl ?_
    have e : Fin.ofNat 9 n = (Fin.last n).castLE hn := Fin.ext (Nat.mod_eq_of_lt (by omega))
    rw [e]
    exact term8_apply f x q hv (((Fin.last n).castLE hn).castLE (by decide)) _ o

theorem sum16_zero (f : FVec Ideal S1024x16 .f32) (x : Vec Ideal S9x16x16 .f32) (q : Fin 1024) (o : Fin 16) : sum16 f x 0 (ix2 q o) = 0 := by
  unfold sum16
  pointwise [k0_pay52]

theorem sum16_succ (f : FVec Ideal S1024x16 .f32) (x : Vec Ideal S9x16x16 .f32) (q : Fin 1024) (o : Fin 16) (n : Nat) :
    sum16 f x (n + 1) (ix2 q o) = sum16 f x n (ix2 q o)
      + term16 (hitV (k0_pay5 (F := Ideal)) (leftV (k0_pay17 f) n)) f (slab16 x (Fin.ofNat 9 n)) (ix2 q o) := (rfl)

theorem sum16_apply (f : FVec Ideal S1024x16 .f32) (x : Vec Ideal S9x16x16 .f32) (q : Fin 1024)
    (hv : ∀ k, simAt (fun q c => f (ix2 q c)) q k ≠ ⊥) (o : Fin 16) (n : Nat) (hn : n ≤ 9) :
    sum16 f x n (ix2 q o) = ∑ r : Fin n, ∑ c, f (ix2 (near (fun q c => f (ix2 q c)) q (r.castLE hn)) c) * x (ix3 (r.castLE hn) c o) := by
  induction n with
  | zero => rw [Finset.univ_eq_empty, Finset.sum_empty]; exact sum16_zero f x q o
  | succ n ih =>
    rw [Fin.sum_univ_castSucc]
    rw [sum16_succ, ih (by omega)]
    refine congrArg₂ (· + ·) rfl ?_
    have e : Fin.ofNat 9 n = (Fin.last n).castLE hn := Fin.ext (Nat.mod_eq_of_lt (by omega))
    rw [e]
    exact term16_apply f x q hv (((Fin.last n).castLE hn).castLE (by decide)) _ o

/-- The first layer's output: the two halves side by side and their positive part. -/
def layer8 (f : FVec Ideal S1024x16 .f32) (x : Vec Ideal S9x16x8 .f32) (b : FVec Ideal S1x8 .f32) (x' : Vec Ideal S9x16x8 .f32) (b' : FVec Ideal S1x8 .f32) :
    FVec Ideal S1024x16 .f32 :=
  maximumf (concatenate S1024x16 1 [⟨S1024x8, conv8 f x b⟩, ⟨S1024x8, addf (sum8 f x' 9) (broadcastTo S1024x8 b' broadcasts_S1x8_S1024x8)⟩]
          concatenates_S1024x8_S1024x8_S1024x16_d1) (broadcast S1024x16 (Scalar.ofBits .f32 0x00000000#32))

/-- The second layer's output, before the channels are put first. -/
def layer16 (f : FVec Ideal S1024x16 .f32) (x : Vec Ideal S9x16x16 .f32) (b : FVec Ideal S1x16 .f32) (x' : Vec Ideal S9x16x16 .f32) (b' : FVec Ideal S1x16 .f32) :
    FVec Ideal S1024x32 .f32 :=
  maximumf (concatenate S1024x32 1 [⟨S1024x16, conv16 f x b⟩, ⟨S1024x16, addf (sum16 f x' 9) (broadcastTo S1024x16 b' broadcasts_S1x16_S1024x16)⟩]
          concatenates_S1024x16_S1024x16_S1024x32_d1) (broadcast S1024x32 (Scalar.ofBits .f32 0x00000000#32))

theorem layer8_apply (f : FVec Ideal S1024x16 .f32) (x : Vec Ideal S9x16x8 .f32) (b : FVec Ideal S1x8 .f32) (x' : Vec Ideal S9x16x8 .f32) (b' : FVec Ideal S1x8 .f32)
    (q : Fin 1024) (hv : ∀ k, simAt (fun q c => f (ix2 q c)) q k ≠ ⊥) (c : Fin 16) :
    layer8 f x b x' b' (ix2 q c) = layerAt (m := 8) rfl (fun q c => f (ix2 q c)) (fun i j c o => x (ix3 (⟨3 * i.val + j.val, by omega⟩ : Fin 9) c o))
      (fun o => b (ix2 0 o)) (fun k c o => x' (ix3 k c o)) (fun o => b' (ix2 0 o)) q c := by
  pointwise [layer8, conv8_apply]
  unfold layerAt nearAt
  refine congrArg (max · 0) (dite_congr rfl (fun _ => rfl) fun h => ?_)
  rw [sum8_apply f x' q hv _ 9 le_rfl]
  rfl

theorem layer16_apply (f : FVec Ideal S1024x16 .f32) (x : Vec Ideal S9x16x16 .f32) (b : FVec Ideal S1x16 .f32) (x' : Vec Ideal S9x16x16 .f32) (b' : FVec Ideal S1x16 .f32)
    (q : Fin 1024) (hv : ∀ k, simAt (fun q c => f (ix2 q c)) q k ≠ ⊥) (c : Fin 32) :
    layer16 f x b x' b' (ix2 q c) = layerAt (m := 16) rfl (fun q c => f (ix2 q c)) (fun i j c o => x (ix3 (⟨3 * i.val + j.val, by omega⟩ : Fin 9) c o))
      (fun o => b (ix2 0 o)) (fun k c o => x' (ix3 k c o)) (fun o => b' (ix2 0 o)) q c := by
  pointwise [layer16, conv16_apply]
  unfold layerAt nearAt
  refine congrArg (max · 0) (dite_congr rfl (fun _ => rfl) fun h => ?_)
  rw [sum16_apply f x' q hv _ 9 le_rfl]
  rfl

end Cert.KernelIdeal.Net

end
-- ==== Proof.Words.lean ====
/- What each step of one run of the feature kernel holds, from its first load to the block it stores. -/
module

public import proofs.«01_k».proof.Proof.Nearest
public import proofs.«01_k».proof.Proof.FeatI

@[expose] public section

set_option maxRecDepth 16384

noncomputable section

namespace Cert.KernelIdeal.Net

open Idealize.ShloMosaic Idealize.ShloMosaic.TcCoe
open Cert.KernelIdeal Cert.KernelIdeal.Gen Cert.Net

/-- The features of the image the block holds. -/
def feat (x : Vec Ideal S1x1024x16 .f32) : FVec Ideal S1024x16 .f32 := fun i => x (ix3 (0 : Fin 1) (i 0) (i 1))

theorem load8 {m : Memref sig .tc .vmem S9x16x8 .f32} (h : m.IsWhole) (x : Vec Ideal S9x16x8 .f32) (k : Nat)
    (inb : ∀ a, (![k, 0, 0] : Fin 3 → Nat) a + S1x16x8.size a ≤ S9x16x8.size a) :
    View.readAt (Elt Ideal) m.view (Rect.unit (s := S9x16x8) ![k, 0, 0] S1x16x8.size inb).toLoadRect (h.unread x) = slab8 x ⟨k, inb 0⟩ :=
  readAt_slab8 h x ⟨k, inb 0⟩ inb

theorem load16 {m : Memref sig .tc .vmem S9x16x16 .f32} (h : m.IsWhole) (x : Vec Ideal S9x16x16 .f32) (k : Nat)
    (inb : ∀ a, (![k, 0, 0] : Fin 3 → Nat) a + S1x16x16.size a ≤ S9x16x16.size a) :
    View.readAt (Elt Ideal) m.view (Rect.unit (s := S9x16x16) ![k, 0, 0] S1x16x16.size inb).toLoadRect (h.unread x) = slab16 x ⟨k, inb 0⟩ :=
  readAt_slab16 h x ⟨k, inb 0⟩ inb

/-- A load of a whole block of rank two gives the block. -/
theorem loadAll2 {n m' : Nat} {m : Memref sig .tc .vmem (Shape.mk 2 ![n, m']) .f32} (h : m.IsWhole) (x : Vec Ideal (Shape.mk 2 ![n, m']) .f32)
    (inb : ∀ a, (![0, 0] : Fin 2 → Nat) a + (Shape.mk 2 ![n, m']).size a ≤ (Shape.mk 2 ![n, m']).size a) :
    View.readAt (Elt Ideal) m.view (Rect.unit (s := Shape.mk 2 ![n, m']) ![0, 0] (Shape.mk 2 ![n, m']).size inb).toLoadRect (h.unread x) = x := by
  funext i
  rw [h.readAt_unread]
  refine congrArg x ?_
  funext a; apply Fin.ext
  fin_cases a
  · show 0 + 1 * (i 0).val = (i 0).val; omega
  · show 0 + 1 * (i 1).val = (i 1).val; omega

/-- A load of a whole block of rank three gives the block. -/
theorem loadAll3 {n m' k : Nat} {m : Memref sig .tc .vmem (Shape.mk 3 ![n, m', k]) .f32} (h : m.IsWhole) (x : Vec Ideal (Shape.mk 3 ![n, m', k]) .f32)
    (inb : ∀ a, (![0, 0, 0] : Fin 3 → Nat) a + (Shape.mk 3 ![n, m', k]).size a ≤ (Shape.mk 3 ![n, m', k]).size a) :
    View.readAt (Elt Ideal) m.view (Rect.unit (s := Shape.mk 3 ![n, m', k]) ![0, 0, 0] (Shape.mk 3 ![n, m', k]).size inb).toLoadRect (h.unread x) = x := by
  funext i
  rw [h.readAt_unread]
  refine congrArg x ?_
  funext a; apply Fin.ext
  fin_cases a
  · show 0 + 1 * (i 0).val = (i 0).val; omega
  · show 0 + 1 * (i 1).val = (i 1).val; omega
  · show 0 + 1 * (i 2).val = (i 2).val; omega

theorem cast_same {s : Shape} {e : EltTy} (v : Vec Ideal s e) (h : s.ShapeCasts s) : shapeCast s v h = v := by
  funext i
  exact shapeCast_apply v h i i rfl

theorem pay6_feat (x : Vec Ideal S1x1024x16 .f32) : k0_pay6 x = feat x := by
  funext i
  rw [eq_ix2 i]
  pointwise [k0_pay6, feat]

theorem pay9_zero (i : S1096x16.Idx) : k0_pay9 (F := Ideal) i = 0 := by
  rw [eq_ix2 i]
  pointwise [k0_pay9]

theorem pay45_zero (i : S1096x16.Idx) : k0_pay45 (F := Ideal) i = 0 := by
  rw [eq_ix2 i]
  pointwise [k0_pay45]

variable (c : Dev nD)
  (arg1 : Memref sig .tc .vmem S1x1024x16 .f32) (harg1 : arg1.IsWhole)
  (arg2 : Memref sig .tc .vmem S9x16x8 .f32) (harg2 : arg2.IsWhole)
  (arg3 : Memref sig .tc .vmem S9x16x8 .f32) (harg3 : arg3.IsWhole)
  (arg4 : Memref sig .tc .vmem S9x16x16 .f32) (harg4 : arg4.IsWhole)
  (arg5 : Memref sig .tc .vmem S9x16x16 .f32) (harg5 : arg5.IsWhole)
  (arg6 : Memref sig .tc .vmem S1x8 .f32) (harg6 : arg6.IsWhole)
  (arg7 : Memref sig .tc .vmem S1x8 .f32) (harg7 : arg7.IsWhole)
  (arg8 : Memref sig .tc .vmem S1x16 .f32) (harg8 : arg8.IsWhole)
  (arg9 : Memref sig .tc .vmem S1x16 .f32) (harg9 : arg9.IsWhole)
  (arg10 : Memref sig .tc .vmem S1x32x1024 .f32) (harg10 : arg10.IsWhole) (arg11 : Memref sig .tc .vmem S1096x16 .f32) (harg11 : arg11.IsWhole)
  (x0 : Vec Ideal S1x1024x16 .f32) (x1 : Vec Ideal S9x16x8 .f32) (x2 : Vec Ideal S9x16x8 .f32) (x3 : Vec Ideal S9x16x16 .f32) (x4 : Vec Ideal S9x16x16 .f32) (x5 : Vec Ideal S1x8 .f32) (x6 : Vec Ideal S1x8 .f32) (x7 : Vec Ideal S1x16 .f32) (x8 : Vec Ideal S1x16 .f32)

theorem w_r : kernelRun0_A.sl.r (F := Ideal) c arg1 harg1 x0 = feat x0 := by
  unfold kernelRun0_A.sl.r
  rw [loadAll3 harg1 x0, pay6_feat]

theorem w_r_1 : kernelRun0_A.sl.r_1 (F := Ideal) c arg6 harg6 x5 = x5 := by
  unfold kernelRun0_A.sl.r_1 k0_pay7
  rw [loadAll2 harg6 x5]
  exact cast_same (e := .f32) x5 _

theorem w_r_2 : kernelRun0_A.sl.r_2 (F := Ideal) c arg7 harg7 x6 = x6 := by
  unfold kernelRun0_A.sl.r_2 k0_pay8
  rw [loadAll2 harg7 x6]
  exact cast_same (e := .f32) x6 _

theorem pay10_feat : k0_pay10 (View.readAt (Elt Ideal) arg1.view (Rect.unit (s := S1x1024x16) ![0, 0, 0] S1x1024x16.size inb_S1x1024x16_S1x1024x16_0_0_0).toLoadRect (harg1.unread x0)) = feat x0 := by
  unfold k0_pay10
  rw [loadAll3 harg1 x0, pay6_feat]
  exact cast_same (e := .f32) (feat x0) _

theorem w_v29 : kernelRun0_A.sl.v29 (F := Ideal) c arg1 harg1 arg11 x0 = rowsV (feat x0) 3 := by
  unfold kernelRun0_A.sl.v29 kernelRun0_A.sl.HS0_2
  rw [pay10_feat]
  exact readCov_rows arg11.view (feat x0) _ pay9_zero [] 3 (by decide) _ _ _

theorem w_v36 : kernelRun0_A.sl.v36 (F := Ideal) c arg1 harg1 arg11 x0 = rowsV (feat x0) 4 := by
  unfold kernelRun0_A.sl.v36 kernelRun0_A.sl.HS0_2
  rw [pay10_feat]
  exact readCov_rows arg11.view (feat x0) _ pay9_zero [] 4 (by decide) _ _ _

theorem w_v41 : kernelRun0_A.sl.v41 (F := Ideal) c arg1 harg1 arg11 x0 = rowsV (feat x0) 5 := by
  unfold kernelRun0_A.sl.v41 kernelRun0_A.sl.HS0_2
  rw [pay10_feat]
  exact readCov_rows arg11.view (feat x0) _ pay9_zero [] 5 (by decide) _ _ _

theorem w_v48 : kernelRun0_A.sl.v48 (F := Ideal) c arg1 harg1 arg11 x0 = rowsV (feat x0) 35 := by
  unfold kernelRun0_A.sl.v48 kernelRun0_A.sl.HS0_2
  rw [pay10_feat]
  exact readCov_rows arg11.view (feat x0) _ pay9_zero [] 35 (by decide) _ _ _

theorem w_v55 : kernelRun0_A.sl.v55 (F := Ideal) c arg1 harg1 arg11 x0 = rowsV (feat x0) 36 := by
  unfold kernelRun0_A.sl.v55 kernelRun0_A.sl.HS0_2
  rw [pay10_feat]
  exact readCov_rows arg11.view (feat x0) _ pay9_zero [] 36 (by decide) _ _ _

theorem w_v60 : kernelRun0_A.sl.v60 (F := Ideal) c arg1 harg1 arg11 x0 = rowsV (feat x0) 37 := by
  unfold kernelRun0_A.sl.v60 kernelRun0_A.sl.HS0_2
  rw [pay10_feat]
  exact readCov_rows arg11.view (feat x0) _ pay9_zero [] 37 (by decide) _ _ _

theorem w_v67 : kernelRun0_A.sl.v67 (F := Ideal) c arg1 harg1 arg11 x0 = rowsV (feat x0) 67 := by
  unfold kernelRun0_A.sl.v67 kernelRun0_A.sl.HS0_2
  rw [pay10_feat]
  exact readCov_rows arg11.view (feat x0) _ pay9_zero [] 67 (by decide) _ _ _

theorem w_v74 : kernelRun0_A.sl.v74 (F := Ideal) c arg1 harg1 arg11 x0 = rowsV (feat x0) 68 := by
  unfold kernelRun0_A.sl.v74 kernelRun0_A.sl.HS0_2
  rw [pay10_feat]
  exact readCov_rows arg11.view (feat x0) _ pay9_zero [] 68 (by decide) _ _ _

theorem w_v79 : kernelRun0_A.sl.v79 (F := Ideal) c arg1 harg1 arg11 x0 = rowsV (feat x0) 69 := by
  unfold kernelRun0_A.sl.v79 kernelRun0_A.sl.HS0_2
  rw [pay10_feat]
  exact readCov_rows arg11.view (feat x0) _ pay9_zero [] 69 (by decide) _ _ _

theorem w_r_3 : kernelRun0_A.sl.r_3 (F := Ideal) c arg1 harg1 arg2 harg2 arg11 x0 x1 = k0_pay12 (rowsV (feat x0) 3) (slab8 x1 0) := by
  unfold kernelRun0_A.sl.r_3
  rw [w_v29, load8 harg2 x1]
  rfl

theorem w_r_6 : kernelRun0_A.sl.r_6 (F := Ideal) c arg1 harg1 arg2 harg2 arg6 harg6 arg11 x0 x1 x5 = conv8 (feat x0) x1 x5 := by
  unfold kernelRun0_A.sl.r_6 kernelRun0_A.sl.r_4 kernelRun0_A.sl.r_5
  rw [w_r_1, w_r_3, w_v36, w_v41, w_v48, w_v55, w_v60, w_v67, w_v74, w_v79, load8 harg2 x1 1, load8 harg2 x1 2, load8 harg2 x1 3, load8 harg2 x1 4, load8 harg2 x1 5, load8 harg2 x1 6, load8 harg2 x1 7, load8 harg2 x1 8]
  rfl

theorem w_r_7 : kernelRun0_A.sl.r_7 (F := Ideal) c arg1 harg1 x0 = k0_pay17 (feat x0) := by
  unfold kernelRun0_A.sl.r_7
  rw [w_r]

theorem w_r_8 : kernelRun0_A.sl.r_8 (F := Ideal) c arg1 harg1 x0 = hitV (k0_pay5 (F := Ideal)) (leftV (k0_pay17 (feat x0)) 0) := by
  unfold kernelRun0_A.sl.r_8
  rw [w_r, pay19_eq]
  rfl

theorem w_r_9 : kernelRun0_A.sl.r_9 (F := Ideal) c arg1 harg1 arg3 harg3 x0 x2 = sum8 (feat x0) x2 2 := by
  unfold kernelRun0_A.sl.r_9 kernelRun0_A.sl.cst_57
  rw [w_r, w_r_7, w_r_8, load8 harg3 x2 0, load8 harg3 x2 1]
  exact pay22_eq (k0_pay5 (F := Ideal)) (leftV (k0_pay17 (feat x0)) 0) (feat x0) _ _ _

theorem w_r_10 : kernelRun0_A.sl.r_10 (F := Ideal) c arg1 harg1 x0 = (leftV (k0_pay17 (feat x0)) 2) := by
  unfold kernelRun0_A.sl.r_10
  rw [w_r_7, w_r_8]
  exact pay23_eq (k0_pay5 (F := Ideal)) (leftV (k0_pay17 (feat x0)) 0)

theorem w_r_11 : kernelRun0_A.sl.r_11 (F := Ideal) c arg1 harg1 x0 = rowMax (nameV (k0_pay5 (F := Ideal)) (leftV (k0_pay17 (feat x0)) 2)) := by
  unfold kernelRun0_A.sl.r_11
  rw [w_r_7, w_r_8]
  exact pay24_eq (k0_pay5 (F := Ideal)) (leftV (k0_pay17 (feat x0)) 0)

theorem w_r_12 : kernelRun0_A.sl.r_12 (F := Ideal) c arg1 harg1 arg3 harg3 x0 x2 = sum8 (feat x0) x2 4 := by
  unfold kernelRun0_A.sl.r_12
  rw [w_r, w_r_9, w_r_10, w_r_11, load8 harg3 x2 2, load8 harg3 x2 3]
  exact pay28_eq (k0_pay5 (F := Ideal)) (leftV (k0_pay17 (feat x0)) 2) (feat x0) _ _ _

theorem w_r_13 : kernelRun0_A.sl.r_13 (F := Ideal) c arg1 harg1 x0 = (leftV (k0_pay17 (feat x0)) 4) := by
  unfold kernelRun0_A.sl.r_13
  rw [w_r_10, w_r_11]
  exact pay29_eq (k0_pay5 (F := Ideal)) (leftV (k0_pay17 (feat x0)) 2)

theorem w_r_14 : kernelRun0_A.sl.r_14 (F := Ideal) c arg1 harg1 x0 = multiReduction .maximumf [1] S1024 (nameV (k0_pay5 (F := Ideal)) (leftV (k0_pay17 (feat x0)) 4)) 0xFF800000#32 reduces_S1024x1024_S1024 (.inl rfl) rfl := by
  unfold kernelRun0_A.sl.r_14
  rw [w_r_10, w_r_11]
  exact pay30_eq (k0_pay5 (F := Ideal)) (leftV (k0_pay17 (feat x0)) 2)

theorem w_r_15 : kernelRun0_A.sl.r_15 (F := Ideal) c arg1 harg1 arg3 harg3 x0 x2 = sum8 (feat x0) x2 6 := by
  unfold kernelRun0_A.sl.r_15
  rw [w_r, w_r_12, w_r_13, w_r_14, load8 harg3 x2 4, load8 harg3 x2 5]
  exact pay34_eq (k0_pay5 (F := Ideal)) (leftV (k0_pay17 (feat x0)) 4) (feat x0) _ _ _

theorem w_r_16 : kernelRun0_A.sl.r_16 (F := Ideal) c arg1 harg1 x0 = (leftV (k0_pay17 (feat x0)) 6) := by
  unfold kernelRun0_A.sl.r_16
  rw [w_r_13, w_r_14]
  exact pay35_eq (k0_pay5 (F := Ideal)) (leftV (k0_pay17 (feat x0)) 4)

theorem w_r_17 : kernelRun0_A.sl.r_17 (F := Ideal) c arg1 harg1 x0 = nameV (k0_pay5 (F := Ideal)) (leftV (k0_pay17 (feat x0)) 6) := by
  unfold kernelRun0_A.sl.r_17
  rw [w_r_13, w_r_14]
  exact pay36_eq (k0_pay5 (F := Ideal)) (leftV (k0_pay17 (feat x0)) 4)

theorem w_r_18 : kernelRun0_A.sl.r_18 (F := Ideal) c arg1 harg1 arg3 harg3 x0 x2 = sum8 (feat x0) x2 8 := by
  unfold kernelRun0_A.sl.r_18
  rw [w_r, w_r_15, w_r_16, w_r_17, load8 harg3 x2 6, load8 harg3 x2 7]
  exact pay40_eq (k0_pay5 (F := Ideal)) (leftV (k0_pay17 (feat x0)) 6) (feat x0) _ _ _

theorem w_r_19 : kernelRun0_A.sl.r_19 (F := Ideal) c arg1 harg1 x0 = candV (leftV (k0_pay17 (feat x0)) 8) := by
  unfold kernelRun0_A.sl.r_19
  rw [w_r_16, w_r_17]
  exact pay41_eq (k0_pay5 (F := Ideal)) (leftV (k0_pay17 (feat x0)) 6)

theorem w_r_20 : kernelRun0_A.sl.r_20 (F := Ideal) c arg1 harg1 arg2 harg2 arg3 harg3 arg6 harg6 arg7 harg7 arg11 x0 x1 x2 x5 x6 = (layer8 (feat x0) x1 x5 x2 x6) := by
  unfold kernelRun0_A.sl.r_20 kernelRun0_A.sl.cst_143
  rw [w_r, w_r_2, w_r_6, w_r_18, w_r_19, load8 harg3 x2 8]
  exact pay42_eq (k0_pay5 (F := Ideal)) (leftV (k0_pay17 (feat x0)) 8) (feat x0) _ _ _ _

theorem pay46_hid : k0_pay46 (k0_pay5 (F := Ideal)) (kernelRun0_A.sl.r (F := Ideal) c arg1 harg1 x0) (kernelRun0_A.sl.r_2 c arg7 harg7 x6)
    (kernelRun0_A.sl.r_6 c arg1 harg1 arg2 harg2 arg6 harg6 arg11 x0 x1 x5) (kernelRun0_A.sl.r_18 c arg1 harg1 arg3 harg3 x0 x2) (kernelRun0_A.sl.r_19 c arg1 harg1 x0) (kernelRun0_A.sl.cst_143 (F := Ideal))
    (View.readAt (Elt Ideal) arg3.view (Rect.unit (s := S9x16x8) ![8, 0, 0] S1x16x8.size inb_S9x16x8_S1x16x8_8_0_0).toLoadRect (harg3.unread x2)) = (layer8 (feat x0) x1 x5 x2 x6) := by
  unfold k0_pay46
  have h := w_r_20 c arg1 harg1 arg2 harg2 arg3 harg3 arg6 harg6 arg7 harg7 arg11 x0 x1 x2 x5 x6
  unfold kernelRun0_A.sl.r_20 at h
  rw [h]
  exact cast_same (e := .f32) (layer8 (feat x0) x1 x5 x2 x6) _

theorem w_v285 : kernelRun0_A.sl.v285 (F := Ideal) c arg1 harg1 arg2 harg2 arg3 harg3 arg6 harg6 arg7 harg7 arg11 x0 x1 x2 x5 x6 = rowsV (layer8 (feat x0) x1 x5 x2 x6) 3 := by
  unfold kernelRun0_A.sl.v285 kernelRun0_A.sl.HS0_4
  rw [pay46_hid]
  exact readCov_rows arg11.view (layer8 (feat x0) x1 x5 x2 x6) _ pay45_zero _ 3 (by decide) _ _ _

theorem w_v292 : kernelRun0_A.sl.v292 (F := Ideal) c arg1 harg1 arg2 harg2 arg3 harg3 arg6 harg6 arg7 harg7 arg11 x0 x1 x2 x5 x6 = rowsV (layer8 (feat x0) x1 x5 x2 x6) 4 := by
  unfold kernelRun0_A.sl.v292 kernelRun0_A.sl.HS0_4
  rw [pay46_hid]
  exact readCov_rows arg11.view (layer8 (feat x0) x1 x5 x2 x6) _ pay45_zero _ 4 (by decide) _ _ _

theorem w_v297 : kernelRun0_A.sl.v297 (F := Ideal) c arg1 harg1 arg2 harg2 arg3 harg3 arg6 harg6 arg7 harg7 arg11 x0 x1 x2 x5 x6 = rowsV (layer8 (feat x0) x1 x5 x2 x6) 5 := by
  unfold kernelRun0_A.sl.v297 kernelRun0_A.sl.HS0_4
  rw [pay46_hid]
  exact readCov_rows arg11.view (layer8 (feat x0) x1 x5 x2 x6) _ pay45_zero _ 5 (by decide) _ _ _

theorem w_v304 : kernelRun0_A.sl.v304 (F := Ideal) c arg1 harg1 arg2 harg2 arg3 harg3 arg6 harg6 arg7 harg7 arg11 x0 x1 x2 x5 x6 = rowsV (layer8 (feat x0) x1 x5 x2 x6) 35 := by
  unfold kernelRun0_A.sl.v304 kernelRun0_A.sl.HS0_4
  rw [pay46_hid]
  exact readCov_rows arg11.view (layer8 (feat x0) x1 x5 x2 x6) _ pay45_zero _ 35 (by decide) _ _ _

theorem w_v311 : kernelRun0_A.sl.v311 (F := Ideal) c arg1 harg1 arg2 harg2 arg3 harg3 arg6 harg6 arg7 harg7 arg11 x0 x1 x2 x5 x6 = rowsV (layer8 (feat x0) x1 x5 x2 x6) 36 := by
  unfold kernelRun0_A.sl.v311 kernelRun0_A.sl.HS0_4
  rw [pay46_hid]
  exact readCov_rows arg11.view (layer8 (feat x0) x1 x5 x2 x6) _ pay45_zero _ 36 (by decide) _ _ _

theorem w_v316 : kernelRun0_A.sl.v316 (F := Ideal) c arg1 harg1 arg2 harg2 arg3 harg3 arg6 harg6 arg7 harg7 arg11 x0 x1 x2 x5 x6 = rowsV (layer8 (feat x0) x1 x5 x2 x6) 37 := by
  unfold kernelRun0_A.sl.v316 kernelRun0_A.sl.HS0_4
  rw [pay46_hid]
  exact readCov_rows arg11.view (layer8 (feat x0) x1 x5 x2 x6) _ pay45_zero _ 37 (by decide) _ _ _

theorem w_v323 : kernelRun0_A.sl.v323 (F := Ideal) c arg1 harg1 arg2 harg2 arg3 harg3 arg6 harg6 arg7 harg7 arg11 x0 x1 x2 x5 x6 = rowsV (layer8 (feat x0) x1 x5 x2 x6) 67 := by
  unfold kernelRun0_A.sl.v323 kernelRun0_A.sl.HS0_4
  rw [pay46_hid]
  exact readCov_rows arg11.view (layer8 (feat x0) x1 x5 x2 x6) _ pay45_zero _ 67 (by decide) _ _ _

theorem w_v330 : kernelRun0_A.sl.v330 (F := Ideal) c arg1 harg1 arg2 harg2 arg3 harg3 arg6 harg6 arg7 harg7 arg11 x0 x1 x2 x5 x6 = rowsV (layer8 (feat x0) x1 x5 x2 x6) 68 := by
  unfold kernelRun0_A.sl.v330 kernelRun0_A.sl.HS0_4
  rw [pay46_hid]
  exact readCov_rows arg11.view (layer8 (feat x0) x1 x5 x2 x6) _ pay45_zero _ 68 (by decide) _ _ _

theorem w_v335 : kernelRun0_A.sl.v335 (F := Ideal) c arg1 harg1 arg2 harg2 arg3 harg3 arg6 harg6 arg7 harg7 arg11 x0 x1 x2 x5 x6 = rowsV (layer8 (feat x0) x1 x5 x2 x6) 69 := by
  unfold kernelRun0_A.sl.v335 kernelRun0_A.sl.HS0_4
  rw [pay46_hid]
  exact readCov_rows arg11.view (layer8 (feat x0) x1 x5 x2 x6) _ pay45_zero _ 69 (by decide) _ _ _

theorem w_r_21 : kernelRun0_A.sl.r_21 (F := Ideal) c arg8 harg8 x7 = x7 := by
  unfold kernelRun0_A.sl.r_21 k0_pay43
  rw [loadAll2 harg8 x7]
  exact cast_same (e := .f32) x7 _

theorem w_r_22 : kernelRun0_A.sl.r_22 (F := Ideal) c arg9 harg9 x8 = x8 := by
  unfold kernelRun0_A.sl.r_22 k0_pay44
  rw [loadAll2 harg9 x8]
  exact cast_same (e := .f32) x8 _

theorem w_r_26 : kernelRun0_A.sl.r_26 (F := Ideal) c arg1 harg1 arg2 harg2 arg3 harg3 arg4 harg4 arg6 harg6 arg7 harg7 arg8 harg8 arg11 x0 x1 x2 x3 x5 x6 x7 = conv16 (layer8 (feat x0) x1 x5 x2 x6) x3 x7 := by
  unfold kernelRun0_A.sl.r_26 kernelRun0_A.sl.r_24 kernelRun0_A.sl.r_23 kernelRun0_A.sl.r_25
  rw [w_r_21, w_v285, w_v292, w_v297, w_v304, w_v311, w_v316, w_v323, w_v330, w_v335, load16 harg4 x3 0, load16 harg4 x3 1, load16 harg4 x3 2, load16 harg4 x3 3, load16 harg4 x3 4, load16 harg4 x3 5, load16 harg4 x3 6, load16 harg4 x3 7, load16 harg4 x3 8]
  rfl

theorem w_r_27 : kernelRun0_A.sl.r_27 (F := Ideal) c arg1 harg1 arg2 harg2 arg3 harg3 arg6 harg6 arg7 harg7 arg11 x0 x1 x2 x5 x6 = (leftV (k0_pay17 (layer8 (feat x0) x1 x5 x2 x6)) 0) := by
  unfold kernelRun0_A.sl.r_27
  rw [w_r_20]
  rfl

theorem w_r_28 : kernelRun0_A.sl.r_28 (F := Ideal) c arg1 harg1 arg2 harg2 arg3 harg3 arg6 harg6 arg7 harg7 arg11 x0 x1 x2 x5 x6 = colMax (nameV (k0_pay5 (F := Ideal)) (leftV (k0_pay17 (layer8 (feat x0) x1 x5 x2 x6)) 0)) := by
  unfold kernelRun0_A.sl.r_28
  rw [w_r_20]
  exact pay53_eq (k0_pay5 (F := Ideal)) (layer8 (feat x0) x1 x5 x2 x6)

theorem w_r_29 : kernelRun0_A.sl.r_29 (F := Ideal) c arg1 harg1 arg2 harg2 arg3 harg3 arg5 harg5 arg6 harg6 arg7 harg7 arg11 x0 x1 x2 x4 x5 x6 = sum16 (layer8 (feat x0) x1 x5 x2 x6) x4 2 := by
  unfold kernelRun0_A.sl.r_29
  rw [w_r_20, w_r_27, w_r_28, load16 harg5 x4 0, load16 harg5 x4 1]
  exact pay57_eq (k0_pay5 (F := Ideal)) (leftV (k0_pay17 (layer8 (feat x0) x1 x5 x2 x6)) 0) (layer8 (feat x0) x1 x5 x2 x6) _ _ _

theorem w_r_30 : kernelRun0_A.sl.r_30 (F := Ideal) c arg1 harg1 arg2 harg2 arg3 harg3 arg6 harg6 arg7 harg7 arg11 x0 x1 x2 x5 x6 = (leftV (k0_pay17 (layer8 (feat x0) x1 x5 x2 x6)) 2) := by
  unfold kernelRun0_A.sl.r_30
  rw [w_r_27, w_r_28]
  exact pay58_eq (k0_pay5 (F := Ideal)) (leftV (k0_pay17 (layer8 (feat x0) x1 x5 x2 x6)) 0)

theorem w_r_31 : kernelRun0_A.sl.r_31 (F := Ideal) c arg1 harg1 arg2 harg2 arg3 harg3 arg6 harg6 arg7 harg7 arg11 x0 x1 x2 x5 x6 = nameV (k0_pay5 (F := Ideal)) (leftV (k0_pay17 (layer8 (feat x0) x1 x5 x2 x6)) 2) := by
  unfold kernelRun0_A.sl.r_31
  rw [w_r_27, w_r_28]
  exact pay59_eq (k0_pay5 (F := Ideal)) (leftV (k0_pay17 (layer8 (feat x0) x1 x5 x2 x6)) 0)

theorem w_r_32 : kernelRun0_A.sl.r_32 (F := Ideal) c arg1 harg1 arg2 harg2 arg3 harg3 arg5 harg5 arg6 harg6 arg7 harg7 arg11 x0 x1 x2 x4 x5 x6 = sum16 (layer8 (feat x0) x1 x5 x2 x6) x4 4 := by
  unfold kernelRun0_A.sl.r_32
  rw [w_r_20, w_r_29, w_r_30, w_r_31, load16 harg5 x4 2, load16 harg5 x4 3]
  exact pay63_eq (k0_pay5 (F := Ideal)) (leftV (k0_pay17 (layer8 (feat x0) x1 x5 x2 x6)) 2) (layer8 (feat x0) x1 x5 x2 x6) _ _ _

theorem w_r_33 : kernelRun0_A.sl.r_33 (F := Ideal) c arg1 harg1 arg2 harg2 arg3 harg3 arg6 harg6 arg7 harg7 arg11 x0 x1 x2 x5 x6 = (leftV (k0_pay17 (layer8 (feat x0) x1 x5 x2 x6)) 4) := by
  unfold kernelRun0_A.sl.r_33
  rw [w_r_30, w_r_31]
  exact pay64_eq (k0_pay5 (F := Ideal)) (leftV (k0_pay17 (layer8 (feat x0) x1 x5 x2 x6)) 2)

theorem w_r_34 : kernelRun0_A.sl.r_34 (F := Ideal) c arg1 harg1 arg2 harg2 arg3 harg3 arg6 harg6 arg7 harg7 arg11 x0 x1 x2 x5 x6 = candV (leftV (k0_pay17 (layer8 (feat x0) x1 x5 x2 x6)) 4) := by
  unfold kernelRun0_A.sl.r_34
  rw [w_r_30, w_r_31]
  exact pay65_eq (k0_pay5 (F := Ideal)) (leftV (k0_pay17 (layer8 (feat x0) x1 x5 x2 x6)) 2)

theorem w_r_35 : kernelRun0_A.sl.r_35 (F := Ideal) c arg1 harg1 arg2 harg2 arg3 harg3 arg5 harg5 arg6 harg6 arg7 harg7 arg11 x0 x1 x2 x4 x5 x6 = sum16 (layer8 (feat x0) x1 x5 x2 x6) x4 6 := by
  unfold kernelRun0_A.sl.r_35
  rw [w_r_20, w_r_32, w_r_33, w_r_34, load16 harg5 x4 4, load16 harg5 x4 5]
  exact pay70_eq (k0_pay5 (F := Ideal)) (leftV (k0_pay17 (layer8 (feat x0) x1 x5 x2 x6)) 4) (layer8 (feat x0) x1 x5 x2 x6) _ _ _

theorem w_r_36 : kernelRun0_A.sl.r_36 (F := Ideal) c arg1 harg1 arg2 harg2 arg3 harg3 arg6 harg6 arg7 harg7 arg11 x0 x1 x2 x5 x6 = (leftV (k0_pay17 (layer8 (feat x0) x1 x5 x2 x6)) 6) := by
  unfold kernelRun0_A.sl.r_36
  rw [w_r_33, w_r_34]
  exact pay71_eq (k0_pay5 (F := Ideal)) (leftV (k0_pay17 (layer8 (feat x0) x1 x5 x2 x6)) 4)

theorem w_r_37 : kernelRun0_A.sl.r_37 (F := Ideal) c arg1 harg1 arg2 harg2 arg3 harg3 arg6 harg6 arg7 harg7 arg11 x0 x1 x2 x5 x6 = candV (leftV (k0_pay17 (layer8 (feat x0) x1 x5 x2 x6)) 6) := by
  unfold kernelRun0_A.sl.r_37
  rw [w_r_33, w_r_34]
  exact pay72_eq (k0_pay5 (F := Ideal)) (leftV (k0_pay17 (layer8 (feat x0) x1 x5 x2 x6)) 4)

theorem w_r_38 : kernelRun0_A.sl.r_38 (F := Ideal) c arg1 harg1 arg2 harg2 arg3 harg3 arg5 harg5 arg6 harg6 arg7 harg7 arg11 x0 x1 x2 x4 x5 x6 = sum16 (layer8 (feat x0) x1 x5 x2 x6) x4 8 := by
  unfold kernelRun0_A.sl.r_38
  rw [w_r_20, w_r_35, w_r_36, w_r_37, load16 harg5 x4 6, load16 harg5 x4 7]
  exact pay76_eq (k0_pay5 (F := Ideal)) (leftV (k0_pay17 (layer8 (feat x0) x1 x5 x2 x6)) 6) (layer8 (feat x0) x1 x5 x2 x6) _ _ _

theorem w_r_39 : kernelRun0_A.sl.r_39 (F := Ideal) c arg1 harg1 arg2 harg2 arg3 harg3 arg6 harg6 arg7 harg7 arg11 x0 x1 x2 x5 x6 = (leftV (k0_pay17 (layer8 (feat x0) x1 x5 x2 x6)) 8) := by
  unfold kernelRun0_A.sl.r_39
  rw [w_r_36, w_r_37]
  exact pay77_eq (k0_pay5 (F := Ideal)) (leftV (k0_pay17 (layer8 (feat x0) x1 x5 x2 x6)) 6)

theorem w_r_40 : kernelRun0_A.sl.r_40 (F := Ideal) c arg1 harg1 arg2 harg2 arg3 harg3 arg6 harg6 arg7 harg7 arg11 x0 x1 x2 x5 x6 = colMax (leftV (k0_pay17 (layer8 (feat x0) x1 x5 x2 x6)) 8) := by
  unfold kernelRun0_A.sl.r_40
  rw [w_r_36, w_r_37]
  exact pay78_eq (k0_pay5 (F := Ideal)) (leftV (k0_pay17 (layer8 (feat x0) x1 x5 x2 x6)) 6)

/-- The block the feature kernel stores: the second layer with its channels put first. -/
def outV (x0 : Vec Ideal S1x1024x16 .f32) (x1 x2 : Vec Ideal S9x16x8 .f32) (x3 x4 : Vec Ideal S9x16x16 .f32) (x5 x6 : Vec Ideal S1x8 .f32) (x7 x8 : Vec Ideal S1x16 .f32) :
    FVec Ideal S1x32x1024 .f32 :=
  shapeCast S1x32x1024 (transpose S32x1024 [1, 0] (layer16 (layer8 (feat x0) x1 x5 x2 x6) x3 x7 x4 x8) transposes_S1024x32_p1_0_S32x1024) shapeCasts_S32x1024_S1x32x1024

theorem w_stored : k0_pay1 (k0_pay5 (F := Ideal)) (kernelRun0_A.sl.r_20 (F := Ideal) c arg1 harg1 arg2 harg2 arg3 harg3 arg6 harg6 arg7 harg7 arg11 x0 x1 x2 x5 x6) (kernelRun0_A.sl.r_22 c arg9 harg9 x8) (kernelRun0_A.sl.r_26 c arg1 harg1 arg2 harg2 arg3 harg3 arg4 harg4 arg6 harg6 arg7 harg7 arg8 harg8 arg11 x0 x1 x2 x3 x5 x6 x7)
    (kernelRun0_A.sl.r_38 c arg1 harg1 arg2 harg2 arg3 harg3 arg5 harg5 arg6 harg6 arg7 harg7 arg11 x0 x1 x2 x4 x5 x6) (kernelRun0_A.sl.r_39 c arg1 harg1 arg2 harg2 arg3 harg3 arg6 harg6 arg7 harg7 arg11 x0 x1 x2 x5 x6) (kernelRun0_A.sl.r_40 c arg1 harg1 arg2 harg2 arg3 harg3 arg6 harg6 arg7 harg7 arg11 x0 x1 x2 x5 x6)
    (View.readAt (Elt Ideal) arg5.view (Rect.unit (s := S9x16x16) ![8, 0, 0] S1x16x16.size inb_S9x16x16_S1x16x16_8_0_0).toLoadRect (harg5.unread x4))
      = outV x0 x1 x2 x3 x4 x5 x6 x7 x8 := by
  rw [w_r_20, w_r_22, w_r_26, w_r_38, w_r_39, w_r_40, load16 harg5 x4 8]
  exact pay1_eq (k0_pay5 (F := Ideal)) (leftV (k0_pay17 (layer8 (feat x0) x1 x5 x2 x6)) 8) (layer8 (feat x0) x1 x5 x2 x6) _ _ _ _

theorem out_eq (i : grid0.Coords) : out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 = outV x0 x1 x2 x3 x4 x5 x6 x7 x8 := by
  have h : (kernelRun0_A (F := Ideal) c i arg1 harg1 arg2 harg2 arg3 harg3 arg4 harg4 arg5 harg5 arg6 harg6 arg7 harg7 arg8 harg8 arg9 harg9 arg10 harg10 arg11 harg11 x0 x1 x2 x3 x4 x5 x6 x7 x8).1 = [⟨Rect.unit (s := S1x32x1024) ![0, 0, 0] S1x32x1024.size inb_S1x32x1024_S1x32x1024_0_0_0, k0_pay1 (k0_pay5 (F := Ideal)) (kernelRun0_A.sl.r_20 (F := Ideal) c arg1 harg1 arg2 harg2 arg3 harg3 arg6 harg6 arg7 harg7 arg11 x0 x1 x2 x5 x6) (kernelRun0_A.sl.r_22 c arg9 harg9 x8) (kernelRun0_A.sl.r_26 c arg1 harg1 arg2 harg2 arg3 harg3 arg4 harg4 arg6 harg6 arg7 harg7 arg8 harg8 arg11 x0 x1 x2 x3 x5 x6 x7)
    (kernelRun0_A.sl.r_38 c arg1 harg1 arg2 harg2 arg3 harg3 arg5 harg5 arg6 harg6 arg7 harg7 arg11 x0 x1 x2 x4 x5 x6) (kernelRun0_A.sl.r_39 c arg1 harg1 arg2 harg2 arg3 harg3 arg6 harg6 arg7 harg7 arg11 x0 x1 x2 x5 x6) (kernelRun0_A.sl.r_40 c arg1 harg1 arg2 harg2 arg3 harg3 arg6 harg6 arg7 harg7 arg11 x0 x1 x2 x5 x6)
    (View.readAt (Elt Ideal) arg5.view (Rect.unit (s := S9x16x16) ![8, 0, 0] S1x16x16.size inb_S9x16x16_S1x16x16_8_0_0).toLoadRect (harg5.unread x4))⟩] := by
    delta kernelRun0_A
    rfl
  unfold out0_A_9
  rw [h, w_stored, View.read_writes_junk_eq_canon]
  exact View.canon_cons_unit_zero (S := S1x32x1024) (Val := Elt Ideal) (by funext a; fin_cases a <;> rfl) _ _ _

end Cert.KernelIdeal.Net

end
-- ==== Proof.FeatVal.lean ====
/- The array the feature call leaves: image by image, the second layer of the first layer of the image's features. -/
module

public import proofs.«01_k».proof.Proof.Words

@[expose] public section

set_option maxRecDepth 16384

noncomputable section

namespace Cert.KernelIdeal.Net

open Idealize.ShloMosaic Idealize.ShloMosaic.TcCoe
open Idealize.ShloMosaic.Pipeline (Dat)
open Cert.KernelIdeal Cert.KernelIdeal.Gen Cert.Net

variable (V : (c : Dev nD) → (b : Ref sig .tc) → Buf (Elt Ideal) ((c : Thread nD τ).loc b))

theorem idx0 : ∀ t : Fin cfg0.N, win0_0.index t = ![t.val, 0, 0] ∧ win0_1.index t = ![0, 0, 0] ∧ win0_2.index t = ![0, 0, 0]
    ∧ win0_3.index t = ![0, 0, 0] ∧ win0_4.index t = ![0, 0, 0] ∧ win0_5.index t = ![0, 0] ∧ win0_6.index t = ![0, 0]
    ∧ win0_7.index t = ![0, 0] ∧ win0_8.index t = ![0, 0] ∧ win0_9.index t = ![t.val, 0, 0] ∧ t.val < 32 :=
  (by decide +kernel : ∀ t : Fin grid0.N, _)

theorem iblk0_1 (c : Dev nD) (t : Fin cfg0.N) : iblk0 V c 1 t = V c main_v23 := by blk_ext! [iblk0, idx0 t]
theorem iblk0_2 (c : Dev nD) (t : Fin cfg0.N) : iblk0 V c 2 t = V c main_v28 := by blk_ext! [iblk0, idx0 t]
theorem iblk0_3 (c : Dev nD) (t : Fin cfg0.N) : iblk0 V c 3 t = V c main_v26 := by blk_ext! [iblk0, idx0 t]
theorem iblk0_4 (c : Dev nD) (t : Fin cfg0.N) : iblk0 V c 4 t = V c main_v30 := by blk_ext! [iblk0, idx0 t]
theorem iblk0_5 (c : Dev nD) (t : Fin cfg0.N) : iblk0 V c 5 t = V c main_v31 := by blk_ext! [iblk0, idx0 t]
theorem iblk0_6 (c : Dev nD) (t : Fin cfg0.N) : iblk0 V c 6 t = V c main_v32 := by blk_ext! [iblk0, idx0 t]
theorem iblk0_7 (c : Dev nD) (t : Fin cfg0.N) : iblk0 V c 7 t = V c main_v33 := by blk_ext! [iblk0, idx0 t]
theorem iblk0_8 (c : Dev nD) (t : Fin cfg0.N) : iblk0 V c 8 t = V c main_v34 := by blk_ext! [iblk0, idx0 t]

/-- Image `b`'s features as the rows of one block. -/
def imageV (x : Vec Ideal S32x1024x16 .f32) (b : Fin 32) : FVec Ideal S1024x16 .f32 := fun i => x (ix3 b (i 0) (i 1))

theorem feat_iblk (c : Dev nD) (t : Fin cfg0.N) : feat (iblk0 V c 0 t) = imageV (V c main_v20) ⟨t.val, (idx0 t).2.2.2.2.2.2.2.2.2.2⟩ := by
  funext i
  unfold feat imageV
  blk_ext [iblk0, idx0 t]

/-- The features call's result on whole arrays. -/
def featOut (x : Vec Ideal S32x1024x16 .f32) (x1 x2 : Vec Ideal S9x16x8 .f32) (x3 x4 : Vec Ideal S9x16x16 .f32) (x5 x6 : Vec Ideal S1x8 .f32) (x7 x8 : Vec Ideal S1x16 .f32) :
    Vec Ideal S32x32x1024 .f32 := fun i =>
  layer16 (layer8 (imageV x (i 0)) x1 x5 x2 x6) x3 x7 x4 x8 (ix2 (i 2) (i 1))

theorem channels_first (L : FVec Ideal S1024x32 .f32) (y : S1x32x1024.Idx) :
    shapeCast S1x32x1024 (transpose S32x1024 [1, 0] L transposes_S1024x32_p1_0_S32x1024) shapeCasts_S32x1024_S1x32x1024 y = L (ix2 (y 2) (y 1)) := by
  idx_vars y
  pointwise []

theorem feat_array (c : Dev nD) : (dat0 V c).arrAt 9 cfg0.N
    = featOut (V c main_v20) (V c main_v23) (V c main_v28) (V c main_v26) (V c main_v30) (V c main_v31) (V c main_v32) (V c main_v33) (V c main_v34) := by
  refine (dat0 V c).arrAt_eq_of_covers 9 _ (by decide +kernel) fun t _ y => ?_
  rw [after0_9]
  unfold outsAt0
  rw [out_eq, iblk0_1, iblk0_2, iblk0_3, iblk0_4, iblk0_5, iblk0_6, iblk0_7, iblk0_8]
  unfold outV
  rw [feat_iblk]
  have e : ((cfg0.win 9).blk t).view.emb y = ix3 (⟨t.val, (idx0 t).2.2.2.2.2.2.2.2.2.2⟩ : Fin 32) (y 1) (y 2) := by blk_ext [idx0 t]
  rw [e]
  exact channels_first _ y

end Cert.KernelIdeal.Net

end
-- ==== Proof.FcVal.lean ====
/- The array the classifier call leaves: the accumulator over the sixteen blocks of the long axis, then the two last layers. -/
module

public import proofs.«01_k».proof.Proof.FcI
public import Idealize.ShloMosaic.Lib.Pipeline.ValueKit
public import Idealize.ShloMosaic.Lib.Pointwise

@[expose] public section

set_option maxRecDepth 16384

noncomputable section

namespace Cert.KernelIdeal.Net

open Idealize.ShloMosaic Idealize.ShloMosaic.TcCoe
open Idealize.ShloMosaic.Pipeline (Dat)
open Cert.KernelIdeal Cert.KernelIdeal.Gen

variable (V : (c : Dev nD) → (b : Ref sig .tc) → Buf (Elt Ideal) ((c : Thread nD τ).loc b))

theorem idx1 : ∀ t : Fin cfg1.N, win1_0.index t = ![0, t.val] ∧ win1_1.index t = ![0, t.val] ∧ win1_2.index t = ![0, 0]
    ∧ win1_3.index t = ![0, 0] ∧ win1_4.index t = ![0, 0] ∧ win1_5.index t = ![0, 0] ∧ t.val < 16 :=
  (by decide +kernel : ∀ t : Fin grid1.N, _)

theorem flush1 : ∀ t : Fin cfg1.N, (cfg1.win 5).flush t = true → t.val % 16 = 15 :=
  (by decide +kernel : ∀ t : Fin grid1.N, (cfg1.win 5).flush t = true → t.val % 16 = 15)

theorem pay2_apply (a : Vec Ideal S1024x32 .f32) (x0 : Vec Ideal S1024x2048 .f32) (x1 : Vec Ideal S32x2048 .f32) (h : Fin 1024) (b : Fin 32) :
    k1_pay2 a x0 x1 (ix2 h b) = a (ix2 h b) + ∑ k, x0 (ix2 h k) * x1 (ix2 b k) := by
  pointwise [k1_pay2]

theorem pay1_apply (h : Fin 1024) (b : Fin 32) : k1_pay1 (F := Ideal) (ix2 h b) = 0 := by
  pointwise [k1_pay1]

theorem pay3_apply (a : Vec Ideal S1024x32 .f32) (x3 : Vec Ideal S1024x1 .f32) (x2 : Vec Ideal S10x1024 .f32) (x4 : Vec Ideal S10x1 .f32) (o : Fin 10) (b : Fin 32) :
    k1_pay3 a x3 x2 x4 (ix2 o b) = (∑ h, x2 (ix2 o h) * max (a (ix2 h b) + x3 (ix2 h 0)) 0) + x4 (ix2 o 0) := by
  pointwise [k1_pay3]

/-- Block `s`'s share of the long inner product. -/
def share (x0 : Vec Ideal S1024x32768 .f32) (x1 : Vec Ideal S32x32768 .f32) (h : Fin 1024) (b : Fin 32) (s : Fin 16) : EReal :=
  ∑ k : Fin 2048, x0 (ix2 h (⟨s.val * 2048 + k.val, by omega⟩ : Fin 32768)) * x1 (ix2 b (⟨s.val * 2048 + k.val, by omega⟩ : Fin 32768))

theorem blk_weights (c : Dev nD) (t : Fin cfg1.N) (h : Fin 1024) (k : Fin 2048) :
    iblk1 V c 0 t (ix2 (n0 := 1024) (n1 := 2048) h k) = V c main_arg9 (ix2 h (⟨t.val * 2048 + k.val, by have := (idx1 t).2.2.2.2.2.2; omega⟩ : Fin 32768)) := by
  blk_point [iblk1, idx1 t]

theorem blk_flat (c : Dev nD) (t : Fin cfg1.N) (b : Fin 32) (k : Fin 2048) :
    iblk1 V c 1 t (ix2 (n0 := 32) (n1 := 2048) b k) = V c main_v36 (ix2 b (⟨t.val * 2048 + k.val, by have := (idx1 t).2.2.2.2.2.2; omega⟩ : Fin 32768)) := by
  blk_point [iblk1, idx1 t]

theorem blocks_share (c : Dev nD) (t : Fin cfg1.N) (h : Fin 1024) (b : Fin 32) (A : Vec Ideal S1024x2048 .f32) (B : Vec Ideal S32x2048 .f32)
    (hA : A = iblk1 V c 0 t) (hB : B = iblk1 V c 1 t) :
    ∑ k : Fin 2048, A (ix2 h k) * B (ix2 b k) = share (V c main_arg9) (V c main_v36) h b ⟨t.val, (idx1 t).2.2.2.2.2.2⟩ := by
  subst hA hB
  exact Finset.sum_congr rfl fun k _ => congrArg₂ (· * ·) (blk_weights V c t h k) (blk_flat V c t b k)

theorem acc_A (c : Dev nD) (t : Fin cfg1.N) (h0 : t.val % 16 = 0) (h1 : ¬ t.val % 16 = 15) (h : Fin 1024) (b : Fin 32) :
    (outsAt1 V c t.val t.isLt).2 (ix2 h b) = share (V c main_arg9) (V c main_v36) h b ⟨t.val, (idx1 t).2.2.2.2.2.2⟩ := by
  rw [outsAt1_A V c t h0 h1]
  dsimp only
  unfold sout1_A_0
  frame_out
  rw [pay2_apply, pay1_apply, zero_add]
  exact blocks_share V c t h b _ _ rfl rfl

theorem acc_B (c : Dev nD) (t : Fin cfg1.N) (h0 : ¬ t.val % 16 = 0) (h1 : ¬ t.val % 16 = 15) (h : Fin 1024) (b : Fin 32) :
    (outsAt1 V c t.val t.isLt).2 (ix2 h b) = (outsAt1 V c (t.val - 1) (lt_of_le_of_lt (Nat.sub_le _ _) t.isLt)).2 (ix2 h b)
      + share (V c main_arg9) (V c main_v36) h b ⟨t.val, (idx1 t).2.2.2.2.2.2⟩ := by
  rw [outsAt1_B V c t h0 h1]
  dsimp only
  unfold sout1_B_0
  frame_out
  rw [pay2_apply]
  refine congrArg₂ (· + ·) ?_ (blocks_share V c t h b _ _ rfl rfl)
  exact congrFun ((Memref.isWhole_whole cc1_scratch0).read_unread _) (ix2 h b)

theorem acc_eq (c : Dev nD) (h : Fin 1024) (b : Fin 32) (n : Nat) (hn : n < cfg1.N) (h15 : n < 15) :
    (outsAt1 V c n hn).2 (ix2 h b) = ∑ s : Fin (n + 1), share (V c main_arg9) (V c main_v36) h b (s.castLE (by omega)) := by
  induction n with
  | zero =>
    rw [Fin.sum_univ_one]
    exact acc_A V c ⟨0, hn⟩ rfl (by show ¬ 0 % 16 = 15; omega) h b
  | succ n ih =>
    rw [Fin.sum_univ_castSucc]
    refine (acc_B V c ⟨n + 1, hn⟩ (by show ¬ (n + 1) % 16 = 0; omega) (by show ¬ (n + 1) % 16 = 15; omega) h b).trans ?_
    exact congrArg₂ (· + ·) (ih (by omega) (by omega)) rfl

/-- The classifier call's result on whole arrays. -/
def fcOut (x0 : Vec Ideal S1024x32768 .f32) (x1 : Vec Ideal S32x32768 .f32) (x2 : Vec Ideal S10x1024 .f32) (x3 : Vec Ideal S1024x1 .f32) (x4 : Vec Ideal S10x1 .f32) :
    Vec Ideal S10x32 .f32 := fun i =>
  (∑ h : Fin 1024, x2 (ix2 (i 0) h) * max ((∑ k : Fin 32768, x0 (ix2 h k) * x1 (ix2 (i 1) k)) + x3 (ix2 h 0)) 0) + x4 (ix2 (i 0) 0)

theorem share_sum (x0 : Vec Ideal S1024x32768 .f32) (x1 : Vec Ideal S32x32768 .f32) (h : Fin 1024) (b : Fin 32) :
    ∑ s : Fin 16, share x0 x1 h b s = ∑ k : Fin 32768, x0 (ix2 h k) * x1 (ix2 b k) :=
  (Fin.sum_univ_tiles 16 2048 rfl (fun k : Fin 32768 => x0 (ix2 h k) * x1 (ix2 b k))).symm

theorem iblk1_2 (c : Dev nD) (t : Fin cfg1.N) : iblk1 V c 2 t = V c main_arg11 := by blk_ext! [iblk1, idx1 t]
theorem iblk1_3 (c : Dev nD) (t : Fin cfg1.N) : iblk1 V c 3 t = V c main_v37 := by blk_ext! [iblk1, idx1 t]
theorem iblk1_4 (c : Dev nD) (t : Fin cfg1.N) : iblk1 V c 4 t = V c main_v38 := by blk_ext! [iblk1, idx1 t]

theorem out_C (c : Dev nD) (t : Fin cfg1.N) (h0 : ¬ t.val % 16 = 0) (h1 : t.val % 16 = 15) (o : Fin 10) (b : Fin 32) :
    (outsAt1 V c t.val t.isLt).1 (ix2 o b) = fcOut (V c main_arg9) (V c main_v36) (V c main_arg11) (V c main_v37) (V c main_v38) (ix2 o b) := by
  rw [outsAt1_C V c t h0 h1]
  dsimp only
  unfold out1_C_5
  frame_out
  rw [pay3_apply, iblk1_2, iblk1_3, iblk1_4]
  unfold fcOut
  refine congrArg (· + _) (Finset.sum_congr rfl fun h _ => ?_)
  have key : ∀ {u v a d : EReal}, u = v → a * max (u + d) 0 = a * max (v + d) 0 := fun e => by rw [e]
  refine key ?_
  rw [pay2_apply]
  have ht : t.val < 16 := (idx1 t).2.2.2.2.2.2
  have hlast : ∑ s : Fin 16, share (V c main_arg9) (V c main_v36) h b s
      = (∑ s : Fin 15, share (V c main_arg9) (V c main_v36) h b s.castSucc) + share (V c main_arg9) (V c main_v36) h b (Fin.last 15) := Fin.sum_univ_castSucc _
  refine Eq.trans ?_ (hlast.symm.trans (share_sum _ _ h b))
  have hl : (⟨t.val, (idx1 t).2.2.2.2.2.2⟩ : Fin 16) = Fin.last 15 := Fin.ext (by show t.val = 15; omega)
  refine congrArg₂ (· + ·) ?_ ((blocks_share V c t h b _ _ rfl rfl).trans (by rw [hl]))
  refine (congrFun ((Memref.isWhole_whole cc1_scratch0).read_unread _) (ix2 h b)).trans ?_
  have e : ∀ (n : Nat) (hn : n < cfg1.N), n = 14 → (outsAt1 V c n hn).2 (ix2 h b) = ∑ s : Fin 15, share (V c main_arg9) (V c main_v36) h b s.castSucc := by
    intro n hn e
    subst e
    exact acc_eq V c h b 14 hn (by decide)
  exact e _ _ (by omega)

theorem fc_array (c : Dev nD) : (dat1 V c).arrAt 5 cfg1.N
    = fcOut (V c main_arg9) (V c main_v36) (V c main_arg11) (V c main_v37) (V c main_v38) := by
  refine (dat1 V c).arrAt_eq_of_covers 5 _ (by decide +kernel) fun t hf y => ?_
  rw [after1_5]
  have h1 := flush1 t hf
  have e : ((cfg1.win 5).blk t).view.emb y = ix2 (n0 := 10) (n1 := 32) (y 0) (y 1) := by blk_ext [idx1 t]
  rw [e]
  refine Eq.trans ?_ (out_C V c t (by omega) h1 (y 0) (y 1))
  exact congrArg (outsAt1 V c t.val t.isLt).1 (eq_ix2 (n0 := 10) (n1 := 32) y)

end Cert.KernelIdeal.Net

end
-- ==== Proof.HostVal.lean ====
/- The arrays the two calls are entered with, and the result, as functions of the arguments. -/
module

public import proofs.«01_k».proof.Proof.RunI
public import proofs.«01_k».proof.Proof.FeatVal
public import proofs.«01_k».proof.Proof.FcVal
public import Idealize.ShloMosaic.Lib.Claim
public import Idealize.ShloMosaic.Lib.Pipeline.ValueKit
public import Idealize.ShloMosaic.Lib.Pointwise

@[expose] public section

set_option maxRecDepth 16384

noncomputable section

namespace Cert.KernelIdeal.Net

open Idealize.ShloMosaic Idealize.ShloMosaic.TcCoe
open Cert.KernelIdeal Cert.KernelIdeal.Gen

/-- The row numbers above the column numbers. -/
def gridV : FVec Ideal S2x32x32 .f32 :=
  concatenate S2x32x32 0 [⟨S1x32x32, (broadcastInDim S1x32x32 ![1, 2] bcast_S32x32_S1x32x32_1_2 (broadcastInDim S32x32 ![0] bcast_S32_S32x32_0 (sitofp .f32 (iotaInDim S32 32 0))))⟩, ⟨S1x32x32, (broadcastInDim S1x32x32 ![1, 2] bcast_S32x32_S1x32x32_1_2 (broadcastInDim S32x32 ![1] bcast_S32_S32x32_1 (sitofp .f32 (iotaInDim S32 32 0))))⟩] concatenates_S1x32x32_S1x32x32_S2x32x32_d0

/-- The two coordinate channels, normalised, for every image. -/
def coordsV : FVec Ideal S32x2x32x32 .f32 :=
  broadcastInDim S32x2x32x32 ![0, 1, 2, 3] bcast_S1x2x32x32_S32x2x32x32_0_1_2_3 (broadcastInDim S1x2x32x32 ![1, 2, 3] bcast_S2x32x32_S1x2x32x32_1_2_3 (Host.divf gridV (broadcastInDim S2x32x32 ![0, 1, 2] bcast_S1x32x32_S2x32x32_0_1_2 (maximumf (Host.sqrt (broadcastInDim S1x32x32 ![1, 2] bcast_S32x32_S1x32x32_1_2 (Host.reduceAdd (mulf gridV gridV) (constant S_ .f32 0x00000000#32) reducesTo_S2x32x32_S32x32_d0 h_S_))) (broadcastInDim S1x32x32 ![] bcast_S_S1x32x32 (constant S_ .f32 0x2B8CBCCC#32))))))

/-- The images with their coordinate channels. -/
def imgV (x : FVec Ideal S32x3x32x32 .f32) : FVec Ideal S32x5x32x32 .f32 :=
  concatenate S32x5x32x32 1 [⟨S32x3x32x32, x⟩, ⟨S32x2x32x32, coordsV⟩] concatenates_S32x3x32x32_S32x2x32x32_S32x5x32x32_d1

/-- The images pixel by pixel, the channels last. -/
def pixV (x : FVec Ideal S32x3x32x32 .f32) : FVec Ideal S32x1024x5 .f32 :=
  transpose S32x1024x5 [0, 2, 1] (shapeCast S32x5x1024 (imgV x) shapeCasts_S32x5x32x32_S32x5x1024) transposes_S32x5x1024_S32x1024x5_0_2_1

/-- The images pixel by pixel, with eleven channels of zeros more. -/
def feat20 (x : FVec Ideal S32x3x32x32 .f32) : FVec Ideal S32x1024x16 .f32 :=
  pad S32x1024x16 ![0, 0, 0] ![0, 0, 11] ![0, 0, 0] (pixV x) (sitofp .f32 (constantI S_ 32 0#32)) pads_S32x1024x5_S32x1024x16_000_000_0110 h_S_

/-- The first convolution's weights, tap by tap, with eleven channels of zeros more. -/
def wc8 (w : FVec Ideal S8x5x3x3 .f32) : FVec Ideal S9x16x8 .f32 :=
  pad S9x16x8 ![0, 0, 0] ![0, 11, 0] ![0, 0, 0] (shapeCast S9x5x8 (transpose S3x3x5x8 [2, 3, 1, 0] w transposes_S8x5x3x3_S3x3x5x8_2_3_1_0) shapeCasts_S3x3x5x8_S9x5x8) (sitofp .f32 (constantI S_ 32 0#32)) pads_S9x5x8_S9x16x8_000_0110_000 h_S_

/-- The second convolution's weights, tap by tap. -/
def wc16 (w : FVec Ideal S16x16x3x3 .f32) : FVec Ideal S9x16x16 .f32 :=
  pad S9x16x16 ![0, 0, 0] ![0, 0, 0] ![0, 0, 0] (shapeCast S9x16x16 (transpose S3x3x16x16 [2, 3, 1, 0] w transposes_S16x16x3x3_S3x3x16x16_2_3_1_0) shapeCasts_S3x3x16x16_S9x16x16) (sitofp .f32 (constantI S_ 32 0#32)) pads_S9x16x16_S9x16x16_000_000_000 h_S_

/-- The first neighbour weights, rank by rank, with eleven channels of zeros more. -/
def wn8 (w : FVec Ideal S8x5x9 .f32) : FVec Ideal S9x16x8 .f32 :=
  pad S9x16x8 ![0, 0, 0] ![0, 11, 0] ![0, 0, 0] (transpose S9x5x8 [2, 1, 0] w transposes_S8x5x9_S9x5x8_2_1_0) (sitofp .f32 (constantI S_ 32 0#32)) pads_S9x5x8_S9x16x8_000_0110_000 h_S_

/-- The second neighbour weights, rank by rank. -/
def wn16 (w : FVec Ideal S16x16x9 .f32) : FVec Ideal S9x16x16 .f32 :=
  pad S9x16x16 ![0, 0, 0] ![0, 0, 0] ![0, 0, 0] (transpose S9x16x16 [2, 1, 0] w transposes_S16x16x9_S9x16x16_2_1_0) (sitofp .f32 (constantI S_ 32 0#32)) pads_S9x16x16_S9x16x16_000_000_000 h_S_

/-- The feature call's result. -/
def featsV (x : FVec Ideal S32x3x32x32 .f32) (w1 : FVec Ideal S8x5x3x3 .f32) (b1 : FVec Ideal S8 .f32) (w2 : FVec Ideal S8x5x9 .f32) (b2 : FVec Ideal S8 .f32)
    (w3 : FVec Ideal S16x16x3x3 .f32) (b3 : FVec Ideal S16 .f32) (w4 : FVec Ideal S16x16x9 .f32) (b4 : FVec Ideal S16 .f32) : FVec Ideal S32x32x1024 .f32 :=
  featOut (feat20 x) (wc8 w1) (wn8 w2) (wc16 w3) (wn16 w4) (shapeCast S1x8 b1 shapeCasts_S8_S1x8) (shapeCast S1x8 b2 shapeCasts_S8_S1x8)
    (shapeCast S1x16 b3 shapeCasts_S16_S1x16) (shapeCast S1x16 b4 shapeCasts_S16_S1x16)

variable (m : (ℓ : Loc nD τ sig) → Buf (Elt Ideal) ℓ) (ρ : Dev nD → PrngReg)

theorem W11_v20 (c : Dev nD) : W11 m ρ c (Proc.devRef .tc main_v20) = feat20 (m ((c : Thread nD τ).loc main_arg0)) := by
  rw [W11_of m ρ c main_v20 (by decide), W10_of m ρ c main_v20 (by decide), W9_of m ρ c main_v20 (by decide), W8_of m ρ c main_v20 (by decide), W7_of m ρ c main_v20 (by decide), W6_of m ρ c main_v20 (by decide), W5_of m ρ c main_v20 (by decide), W4_of m ρ c main_v20 (by decide), W3_of m ρ c main_v20 (by decide)]
  show StableHlo.after hostOps0_1 _ _ = _
  after_results
  rfl

theorem W11_v23 (c : Dev nD) : W11 m ρ c (Proc.devRef .tc main_v23) = wc8 (m ((c : Thread nD τ).loc main_arg1)) := by
  rw [W11_of m ρ c main_v23 (by decide), W10_of m ρ c main_v23 (by decide), W9_of m ρ c main_v23 (by decide), W8_of m ρ c main_v23 (by decide), W7_of m ρ c main_v23 (by decide), W6_of m ρ c main_v23 (by decide), W5_of m ρ c main_v23 (by decide)]
  show StableHlo.after hostOps0_3 _ _ = _
  after_results
  rfl

theorem W11_v26 (c : Dev nD) : W11 m ρ c (Proc.devRef .tc main_v26) = wc16 (m ((c : Thread nD τ).loc main_arg5)) := by
  rw [W11_of m ρ c main_v26 (by decide), W10_of m ρ c main_v26 (by decide), W9_of m ρ c main_v26 (by decide), W8_of m ρ c main_v26 (by decide), W7_of m ρ c main_v26 (by decide)]
  show StableHlo.after hostOps0_5 _ _ = _
  after_results
  rfl

theorem W11_v28 (c : Dev nD) : W11 m ρ c (Proc.devRef .tc main_v28) = wn8 (m ((c : Thread nD τ).loc main_arg3)) := by
  rw [W11_of m ρ c main_v28 (by decide), W10_of m ρ c main_v28 (by decide), W9_of m ρ c main_v28 (by decide)]
  show StableHlo.after hostOps0_7 _ _ = _
  after_results
  rfl

theorem W11_v30 (c : Dev nD) : W11 m ρ c (Proc.devRef .tc main_v30) = wn16 (m ((c : Thread nD τ).loc main_arg7)) := by
  rw [W11_of m ρ c main_v30 (by decide)]
  show StableHlo.after hostOps0_9 _ _ = _
  after_results
  rfl

theorem W11_v31 (c : Dev nD) : W11 m ρ c (Proc.devRef .tc main_v31) = shapeCast S1x8 (m ((c : Thread nD τ).loc main_arg2)) shapeCasts_S8_S1x8 := by
  refine Eq.trans ?_ (congrArg (fun z => shapeCast S1x8 z shapeCasts_S8_S1x8) (W10_args m ρ c main_arg2 (by decide)))
  show StableHlo.after hostOps0_10 _ _ = _
  generalize W10 m ρ c = W
  after_results
  try rfl

theorem W11_v32 (c : Dev nD) : W11 m ρ c (Proc.devRef .tc main_v32) = shapeCast S1x8 (m ((c : Thread nD τ).loc main_arg4)) shapeCasts_S8_S1x8 := by
  refine Eq.trans ?_ (congrArg (fun z => shapeCast S1x8 z shapeCasts_S8_S1x8) (W10_args m ρ c main_arg4 (by decide)))
  show StableHlo.after hostOps0_10 _ _ = _
  generalize W10 m ρ c = W
  after_results
  try rfl

theorem W11_v33 (c : Dev nD) : W11 m ρ c (Proc.devRef .tc main_v33) = shapeCast S1x16 (m ((c : Thread nD τ).loc main_arg6)) shapeCasts_S16_S1x16 := by
  refine Eq.trans ?_ (congrArg (fun z => shapeCast S1x16 z shapeCasts_S16_S1x16) (W10_args m ρ c main_arg6 (by decide)))
  show StableHlo.after hostOps0_10 _ _ = _
  generalize W10 m ρ c = W
  after_results
  try rfl

theorem W11_v34 (c : Dev nD) : W11 m ρ c (Proc.devRef .tc main_v34) = shapeCast S1x16 (m ((c : Thread nD τ).loc main_arg8)) shapeCasts_S16_S1x16 := by
  refine Eq.trans ?_ (congrArg (fun z => shapeCast S1x16 z shapeCasts_S16_S1x16) (W10_args m ρ c main_arg8 (by decide)))
  show StableHlo.after hostOps0_10 _ _ = _
  generalize W10 m ρ c = W
  after_results
  try rfl

theorem W12_v35 (c : Dev nD) : W12 m ρ c (Proc.devRef .tc main_v35) = featsV (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W12_arr m ρ c 9).trans ((feat_array (V11 m ρ) c).trans ?_)
  show featOut (W11 m ρ c (Proc.devRef .tc main_v20)) (W11 m ρ c (Proc.devRef .tc main_v23)) (W11 m ρ c (Proc.devRef .tc main_v28))
    (W11 m ρ c (Proc.devRef .tc main_v26)) (W11 m ρ c (Proc.devRef .tc main_v30)) (W11 m ρ c (Proc.devRef .tc main_v31))
    (W11 m ρ c (Proc.devRef .tc main_v32)) (W11 m ρ c (Proc.devRef .tc main_v33)) (W11 m ρ c (Proc.devRef .tc main_v34)) = _
  rw [W11_v20, W11_v23, W11_v26, W11_v28, W11_v30, W11_v31, W11_v32, W11_v33, W11_v34]
  rfl

theorem W13_v36 (c : Dev nD) : W13 m ρ c (Proc.devRef .tc main_v36) = shapeCast S32x32768 (featsV (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) shapeCasts_S32x32x1024_S32x32768 := by
  rw [← W12_v35 m ρ c]
  show StableHlo.after hostOps1 _ _ = _
  generalize W12 m ρ c = W
  after_results
  try rfl

theorem W13_v37 (c : Dev nD) : W13 m ρ c (Proc.devRef .tc main_v37) = shapeCast S1024x1 (m ((c : Thread nD τ).loc main_arg10)) shapeCasts_S1024_S1024x1 := by
  rw [← W12_args m ρ c main_arg10 (by decide)]
  show StableHlo.after hostOps1 _ _ = _
  generalize W12 m ρ c = W
  after_results
  try rfl

theorem W13_v38 (c : Dev nD) : W13 m ρ c (Proc.devRef .tc main_v38) = shapeCast S10x1 (m ((c : Thread nD τ).loc main_arg12)) shapeCasts_S10_S10x1 := by
  rw [← W12_args m ρ c main_arg12 (by decide)]
  show StableHlo.after hostOps1 _ _ = _
  generalize W12 m ρ c = W
  after_results
  try rfl

/-- The classifier on the feature call's result. -/
theorem W14_v39 (c : Dev nD) : W14 m ρ c (Proc.devRef .tc main_v39)
    = fcOut (m ((c : Thread nD τ).loc main_arg9)) (shapeCast S32x32768 (featsV (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) shapeCasts_S32x32x1024_S32x32768) (m ((c : Thread nD τ).loc main_arg11))
        (shapeCast S1024x1 (m ((c : Thread nD τ).loc main_arg10)) shapeCasts_S1024_S1024x1) (shapeCast S10x1 (m ((c : Thread nD τ).loc main_arg12)) shapeCasts_S10_S10x1) := by
  refine (W14_arr m ρ c 5).trans ((fc_array (V13 m ρ) c).trans ?_)
  show fcOut (W13 m ρ c (Proc.devRef .tc main_arg9)) (W13 m ρ c (Proc.devRef .tc main_v36)) (W13 m ρ c (Proc.devRef .tc main_arg11))
    (W13 m ρ c (Proc.devRef .tc main_v37)) (W13 m ρ c (Proc.devRef .tc main_v38)) = _
  rw [W13_v36, W13_v37, W13_v38, W13_args m ρ c main_arg9 (by decide), W13_args m ρ c main_arg11 (by decide)]

/-- The kernel's result. -/
theorem W15_v40 (c : Dev nD) : W15 m ρ c (Proc.devRef .tc main_v40)
    = transpose S32x10 [1, 0] (fcOut (m ((c : Thread nD τ).loc main_arg9)) (shapeCast S32x32768 (featsV (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) shapeCasts_S32x32x1024_S32x32768) (m ((c : Thread nD τ).loc main_arg11))
        (shapeCast S1024x1 (m ((c : Thread nD τ).loc main_arg10)) shapeCasts_S1024_S1024x1) (shapeCast S10x1 (m ((c : Thread nD τ).loc main_arg12)) shapeCasts_S10_S10x1)) transposes_S10x32_S32x10_1_0 := by
  rw [← W14_v39 m ρ c]
  show StableHlo.after hostOps2 _ _ = _
  generalize W14 m ρ c = W
  after_results
  try rfl

end Cert.KernelIdeal.Net

end
-- ==== Proof.Whole.lean ====
/- Both layers of the network together, and what padding a layer's input channels with zeros does: nothing. -/
module

public import proofs.«01_k».proof.Proof.Spec
public import Mathlib.Data.EReal.Inv

@[expose] public section

noncomputable section

namespace Cert.Net

/-- Five channels padded to sixteen with zeros. -/
def wide (g : Fin 5 → EReal) (c : Fin 16) : EReal := if h : c.val < 5 then g ⟨c.val, h⟩ else 0

theorem sum_wide (g : Fin 16 → EReal) (g' : Fin 5 → EReal) (h : ∀ c : Fin 5, g (c.castLE (by decide)) = g' c)
    (h0 : ∀ c : Fin 16, ¬ c.val < 5 → g c = 0) : ∑ c, g c = ∑ c, g' c := by
  have e : ∑ c : Fin (5 + 11), g c = ∑ c : Fin 5, g (Fin.castAdd 11 c) + ∑ c : Fin 11, g (Fin.natAdd 5 c) := Fin.sum_univ_add _
  refine e.trans ?_
  rw [Finset.sum_eq_zero (s := (Finset.univ : Finset (Fin 11))) fun c _ => h0 (Fin.natAdd 5 c) (by show ¬ 5 + c.val < 5; omega), add_zero]
  exact Finset.sum_congr rfl fun c _ => h c

theorem wide_low (g : Fin 5 → EReal) (c : Fin 5) : wide g (c.castLE (by decide)) = g c := dif_pos c.isLt

theorem wide_high (g : Fin 5 → EReal) (c : Fin 16) (h : ¬ c.val < 5) : wide g c = 0 := dif_neg h

theorem sum_wide_mul (a b : Fin 5 → EReal) : ∑ c, wide a c * wide b c = ∑ c, a c * b c :=
  sum_wide _ _ (fun c => by rw [wide_low, wide_low]) fun c h => by rw [wide_high a c h, zero_mul]

theorem simAt_wide (f : Fin 1024 → Fin 5 → EReal) (q : Fin 1024) : simAt (fun q => wide (f q)) q = simAt f q :=
  funext fun k => sum_wide_mul (f q) (f k)

theorem tap_wide (f : Fin 1024 → Fin 5 → EReal) (i j : Fin 3) (q : Fin 1024) : tap (fun q => wide (f q)) i j q = wide (tap f i j q) := by
  funext c
  unfold tap wide
  by_cases h : c.val < 5
  · simp only [dif_pos h]
  · simp only [dif_neg h]
    split_ifs <;> rfl

/-- A layer on five channels is the layer on the padded sixteen. -/
theorem layerAt_wide {m k : Nat} (hk : k = m + m) (f : Fin 1024 → Fin 5 → EReal) (wc : Fin 3 → Fin 3 → Fin 5 → Fin m → EReal)
    (bc : Fin m → EReal) (wn : Fin 9 → Fin 5 → Fin m → EReal) (bn : Fin m → EReal) (q : Fin 1024) (c : Fin k) :
    layerAt hk (fun q => wide (f q)) (fun i j c o => wide (fun c => wc i j c o) c) bc (fun r c o => wide (fun c => wn r c o) c) bn q c
      = layerAt hk f wc bc wn bn q c := by
  unfold layerAt convAt nearAt near
  simp only [simAt_wide, tap_wide, sum_wide_mul]

/-- The first layer's features. -/
def first (f : Fin 1024 → Fin 5 → EReal) (w1 : Fin 3 → Fin 3 → Fin 5 → Fin 8 → EReal) (b1 : Fin 8 → EReal)
    (w2 : Fin 9 → Fin 5 → Fin 8 → EReal) (b2 : Fin 8 → EReal) (q : Fin 1024) (c : Fin 16) : EReal :=
  layerAt (m := 8) rfl f w1 b1 w2 b2 q c

/-- The second layer's features. -/
def second (f : Fin 1024 → Fin 16 → EReal) (w1 : Fin 3 → Fin 3 → Fin 16 → Fin 16 → EReal) (b1 : Fin 16 → EReal)
    (w2 : Fin 9 → Fin 16 → Fin 16 → EReal) (b2 : Fin 16 → EReal) (q : Fin 1024) (c : Fin 32) : EReal :=
  layerAt (m := 16) rfl f w1 b1 w2 b2 q c

/-- The classifier on one image's features. -/
def classify (f : Fin 32768 → EReal) (w1 : Fin 1024 → Fin 32768 → EReal) (b1 : Fin 1024 → EReal) (w2 : Fin 10 → Fin 1024 → EReal)
    (b2 : Fin 10 → EReal) (o : Fin 10) : EReal :=
  (∑ h, w2 o h * max ((∑ k, w1 h k * f k) + b1 h) 0) + b2 o

/-- The similarities of features none of which is negative are none of them `⊥`. -/
theorem simAt_ne_bot_of_nonneg {n : Nat} (f : Fin 1024 → Fin n → EReal) (h : ∀ q c, 0 ≤ f q c) (q k : Fin 1024) : simAt f q k ≠ ⊥ := by
  have h0 : (0 : EReal) ≤ simAt f q k :=
    Finset.sum_induction _ (fun x : EReal => 0 ≤ x) (fun a b ha hb => add_nonneg ha hb) le_rfl fun c _ => EReal.mul_nonneg (h q c) (h k c)
  exact fun e => absurd (e ▸ h0) (by simp)

/-- The similarities of real features are none of them `⊥`. -/
theorem simAt_ne_bot_of_real {n : Nat} (f : Fin 1024 → Fin n → EReal) (h : ∀ q c, ∃ r : ℝ, f q c = r) (q k : Fin 1024) : simAt f q k ≠ ⊥ := by
  have e : ∃ r : ℝ, simAt f q k = r := by
    refine Finset.sum_induction _ (fun x : EReal => ∃ r : ℝ, x = r) ?_ ⟨0, rfl⟩ fun c _ => ?_
    · rintro a b ⟨r, rfl⟩ ⟨s, rfl⟩
      exact ⟨r + s, (EReal.coe_add r s).symm⟩
    · obtain ⟨r, hr⟩ := h q c
      obtain ⟨s, hs⟩ := h k c
      exact ⟨r * s, by rw [hr, hs, EReal.coe_mul]⟩
  obtain ⟨r, hr⟩ := e
  rw [hr]
  exact EReal.coe_ne_bot r

theorem first_nonneg (f : Fin 1024 → Fin 5 → EReal) (w1 : Fin 3 → Fin 3 → Fin 5 → Fin 8 → EReal) (b1 : Fin 8 → EReal)
    (w2 : Fin 9 → Fin 5 → Fin 8 → EReal) (b2 : Fin 8 → EReal) (q : Fin 1024) (c : Fin 16) : 0 ≤ first f w1 b1 w2 b2 q c :=
  le_max_right _ _

end Cert.Net

end
-- ==== Proof.KerSpec.lean ====
/- The kernel's result as the network's mathematics, for images without infinite entries. -/
module

public import proofs.«01_k».proof.Proof.HostVal
public import proofs.«01_k».proof.Proof.Whole

@[expose] public section

set_option maxRecDepth 16384

noncomputable section

namespace Cert.KernelIdeal.Net

open Idealize.ShloMosaic Idealize.ShloMosaic.TcCoe
open Cert.KernelIdeal Cert.KernelIdeal.Gen Cert.Net

/-- Image `n`'s features, pixel by pixel. -/
def pixels (x : FVec Ideal S32x3x32x32 .f32) (n : Fin 32) (q : Fin 1024) (c : Fin 5) : EReal :=
  imgV x (ix4 n c (⟨q.val / 32, by omega⟩ : Fin 32) (⟨q.val % 32, by omega⟩ : Fin 32))

theorem zero_word : (FloatOps.sitofp FTy.f32 0#32 : Ideal FTy.f32) = (0 : EReal) := by
  show (((0#32 : BitVec 32).toInt : ℝ) : EReal) = 0
  simp

theorem feat20_read (x : FVec Ideal S32x3x32x32 .f32) (n : Fin 32) (q : Fin 1024) (c : Fin 16) : feat20 x (ix3 n q c) = wide (pixels x n q) c := by
  pointwise [feat20, pixV]
  rw [zero_word]
  rfl

theorem wc8_read (w : FVec Ideal S8x5x3x3 .f32) (i j : Fin 3) (c : Fin 16) (o : Fin 8) :
    wc8 w (ix3 (⟨3 * i.val + j.val, by omega⟩ : Fin 9) c o) = wide (fun c => w (ix4 o c i j)) c := by
  pointwise [wc8]
  unfold wide
  by_cases h : c.val < 5
  · rw [dif_pos ⟨by omega, h⟩, dif_pos h]
  · rw [dif_neg fun e => h e.2, dif_neg h, zero_word]

theorem wc16_read (w : FVec Ideal S16x16x3x3 .f32) (i j : Fin 3) (c : Fin 16) (o : Fin 16) :
    wc16 w (ix3 (⟨3 * i.val + j.val, by omega⟩ : Fin 9) c o) = w (ix4 o c i j) := by
  pointwise [wc16]
  rw [dif_pos (by omega)]

theorem wn8_read (w : FVec Ideal S8x5x9 .f32) (k : Fin 9) (c : Fin 16) (o : Fin 8) :
    wn8 w (ix3 k c o) = wide (fun c => w (ix3 o c k)) c := by
  pointwise [wn8]
  rw [zero_word]
  rfl

theorem wn16_read (w : FVec Ideal S16x16x9 .f32) (k : Fin 9) (c : Fin 16) (o : Fin 16) :
    wn16 w (ix3 k c o) = w (ix3 o c k) := by
  pointwise [wn16]

theorem bias8_read (b : FVec Ideal S8 .f32) (o : Fin 8) : shapeCast S1x8 b shapeCasts_S8_S1x8 (ix2 0 o) = b (ix1 o) := by
  pointwise

theorem bias16_read (b : FVec Ideal S16 .f32) (o : Fin 16) : shapeCast S1x16 b shapeCasts_S16_S1x16 (ix2 0 o) = b (ix1 o) := by
  pointwise

/-- The guard against a zero norm is positive. -/
theorem guard_pos : (0 : EReal) < Ideal.ofBits .f32 730643660#32 := by
  simp [Ideal.ofBits, Ideal.ieee, -EReal.coe_mul]

theorem inv_real (y : EReal) : ∃ r : ℝ, y⁻¹ = r := by
  induction y using EReal.rec with
  | bot => exact ⟨0, EReal.inv_bot⟩
  | top => exact ⟨0, EReal.inv_top⟩
  | coe y => exact ⟨y⁻¹, rfl⟩

/-- The coordinate channels are real. -/
theorem coords_real (n : Fin 32) (c : Fin 2) (y x : Fin 32) : ∃ r : ℝ, coordsV (ix4 n c y x) = r := by
  have key : ∀ (k : Fin 32) (e : EReal), ∃ r : ℝ, Ideal.div (FloatOps.sitofp (F := Ideal) FTy.f32 (BitVec.ofNat 32 k.val)) (max e (Ideal.ofBits .f32 730643660#32)) = r := by
    intro k e
    obtain ⟨r, hr⟩ := inv_real (max e (Ideal.ofBits .f32 730643660#32))
    refine ⟨((BitVec.ofNat 32 k.val).toInt : ℝ) * r, ?_⟩
    unfold Ideal.div
    rw [if_neg (lt_of_lt_of_le guard_pos (le_max_right _ _)).ne', hr, EReal.coe_mul]
    rfl
  pointwise [coordsV, gridV]
  split_ifs
  · exact key y _
  · exact key x _

theorem img_read (x : FVec Ideal S32x3x32x32 .f32) (n : Fin 32) (c : Fin 5) (i j : Fin 32) :
    imgV x (ix4 n c i j) = if h : c.val < 3 then x (ix4 n (⟨c.val, h⟩ : Fin 3) i j) else coordsV (ix4 n (⟨c.val - 3, by omega⟩ : Fin 2) i j) := by
  pointwise [imgV]

/-- The features of real images are real. -/
theorem pixels_real (x : FVec Ideal S32x3x32x32 .f32) (hx : ∀ n c i j, ∃ r : ℝ, x (ix4 n c i j) = r) (n : Fin 32) (q : Fin 1024) (c : Fin 5) :
    ∃ r : ℝ, pixels x n q c = r := by
  unfold pixels
  rw [img_read]
  split_ifs
  · exact hx _ _ _ _
  · exact coords_real _ _ _ _

theorem wide_real (g : Fin 5 → EReal) (h : ∀ c, ∃ r : ℝ, g c = r) (c : Fin 16) : ∃ r : ℝ, wide g c = r := by
  unfold wide
  split_ifs
  · exact h _
  · exact ⟨0, rfl⟩

/-- Image `n`'s first features. -/
def firstOf (x : FVec Ideal S32x3x32x32 .f32) (w1 : FVec Ideal S8x5x3x3 .f32) (b1 : FVec Ideal S8 .f32) (w2 : FVec Ideal S8x5x9 .f32) (b2 : FVec Ideal S8 .f32)
    (n : Fin 32) : Fin 1024 → Fin 16 → EReal :=
  first (pixels x n) (fun i j c o => w1 (ix4 o c i j)) (fun o => b1 (ix1 o)) (fun k c o => w2 (ix3 o c k)) (fun o => b2 (ix1 o))

/-- The first layer as the kernel lays it out. -/
theorem layer8_read (x : FVec Ideal S32x3x32x32 .f32) (hx : ∀ n c i j, ∃ r : ℝ, x (ix4 n c i j) = r)
    (w1 : FVec Ideal S8x5x3x3 .f32) (b1 : FVec Ideal S8 .f32) (w2 : FVec Ideal S8x5x9 .f32) (b2 : FVec Ideal S8 .f32) (n : Fin 32) (q : Fin 1024) (c : Fin 16) :
    layer8 (imageV (feat20 x) n) (wc8 w1) (shapeCast S1x8 b1 shapeCasts_S8_S1x8) (wn8 w2) (shapeCast S1x8 b2 shapeCasts_S8_S1x8) (ix2 q c)
      = firstOf x w1 b1 w2 b2 n q c := by
  have hf : (fun (q : Fin 1024) (c : Fin 16) => imageV (feat20 x) n (ix2 q c)) = fun q => wide (pixels x n q) :=
    funext fun q => funext fun c => feat20_read x n q c
  rw [layer8_apply _ _ _ _ _ q (by rw [hf]; exact simAt_ne_bot_of_real _ (fun q c => wide_real _ (pixels_real x hx n q) c) q) c, hf]
  simp only [wc8_read, wn8_read, bias8_read]
  exact layerAt_wide rfl (pixels x n) (fun i j c o => w1 (ix4 o c i j)) (fun o => b1 (ix1 o)) (fun k c o => w2 (ix3 o c k)) (fun o => b2 (ix1 o)) q c

/-- The feature call's result: both layers, image by image. -/
theorem feats_read (x : FVec Ideal S32x3x32x32 .f32) (hx : ∀ n c i j, ∃ r : ℝ, x (ix4 n c i j) = r)
    (w1 : FVec Ideal S8x5x3x3 .f32) (b1 : FVec Ideal S8 .f32) (w2 : FVec Ideal S8x5x9 .f32) (b2 : FVec Ideal S8 .f32)
    (w3 : FVec Ideal S16x16x3x3 .f32) (b3 : FVec Ideal S16 .f32) (w4 : FVec Ideal S16x16x9 .f32) (b4 : FVec Ideal S16 .f32)
    (n : Fin 32) (c : Fin 32) (q : Fin 1024) :
    featsV x w1 b1 w2 b2 w3 b3 w4 b4 (ix3 n c q)
      = second (firstOf x w1 b1 w2 b2 n) (fun i j c o => w3 (ix4 o c i j)) (fun o => b3 (ix1 o)) (fun k c o => w4 (ix3 o c k)) (fun o => b4 (ix1 o)) q c := by
  have hf : (fun (q : Fin 1024) (c : Fin 16) => layer8 (imageV (feat20 x) n) (wc8 w1) (shapeCast S1x8 b1 shapeCasts_S8_S1x8) (wn8 w2)
      (shapeCast S1x8 b2 shapeCasts_S8_S1x8) (ix2 q c)) = firstOf x w1 b1 w2 b2 n :=
    funext fun q => funext fun c => layer8_read x hx w1 b1 w2 b2 n q c
  show layer16 (layer8 (imageV (feat20 x) n) (wc8 w1) (shapeCast S1x8 b1 shapeCasts_S8_S1x8) (wn8 w2) (shapeCast S1x8 b2 shapeCasts_S8_S1x8))
    (wc16 w3) (shapeCast S1x16 b3 shapeCasts_S16_S1x16) (wn16 w4) (shapeCast S1x16 b4 shapeCasts_S16_S1x16) (ix2 q c) = _
  rw [layer16_apply _ _ _ _ _ q (by rw [hf]; exact simAt_ne_bot_of_nonneg _ (first_nonneg _ _ _ _ _) q) c, hf]
  simp only [wc16_read, wn16_read, bias16_read]
  rfl

/-- The classifier call's result, one image and class at a time. -/
theorem fc_read (f : FVec Ideal S32x32x1024 .f32) (w1 : FVec Ideal S1024x32768 .f32) (b1 : FVec Ideal S1024 .f32) (w2 : FVec Ideal S10x1024 .f32) (b2 : FVec Ideal S10 .f32)
    (n : Fin 32) (o : Fin 10) :
    transpose S32x10 [1, 0] (fcOut w1 (shapeCast S32x32768 f shapeCasts_S32x32x1024_S32x32768) w2
        (shapeCast S1024x1 b1 shapeCasts_S1024_S1024x1) (shapeCast S10x1 b2 shapeCasts_S10_S10x1)) transposes_S10x32_S32x10_1_0 (ix2 n o)
      = classify (fun k => f (ix3 n (⟨k.val / 1024, by omega⟩ : Fin 32) (⟨k.val % 1024, by omega⟩ : Fin 1024)))
          (fun h k => w1 (ix2 h k)) (fun h => b1 (ix1 h)) (fun o h => w2 (ix2 o h)) (fun o => b2 (ix1 o)) o := by
  have e1 : ∀ h : Fin 1024, shapeCast S1024x1 b1 shapeCasts_S1024_S1024x1 (ix2 h 0) = b1 (ix1 h) := by intro h; pointwise
  have e2 : ∀ o : Fin 10, shapeCast S10x1 b2 shapeCasts_S10_S10x1 (ix2 o 0) = b2 (ix1 o) := by intro o; pointwise
  have e3 : ∀ k : Fin 32768, shapeCast S32x32768 f shapeCasts_S32x32x1024_S32x32768 (ix2 n k)
      = f (ix3 n (⟨k.val / 1024, by omega⟩ : Fin 32) (⟨k.val % 1024, by omega⟩ : Fin 1024)) := by intro k; pointwise
  have e4 : ∀ z : FVec Ideal S10x32 .f32, transpose S32x10 [1, 0] z transposes_S10x32_S32x10_1_0 (ix2 n o) = z (ix2 o n) := by intro z; pointwise
  rw [e4]
  show (∑ h : Fin 1024, w2 (ix2 o h) * max ((∑ k : Fin 32768, w1 (ix2 h k) * shapeCast S32x32768 f shapeCasts_S32x32x1024_S32x32768 (ix2 n k))
    + shapeCast S1024x1 b1 shapeCasts_S1024_S1024x1 (ix2 h 0)) 0) + shapeCast S10x1 b2 shapeCasts_S10_S10x1 (ix2 o 0) = _
  simp only [e1, e2, e3]
  rfl

end Cert.KernelIdeal.Net

end
-- ==== Proof.RefConv.lean ====
/- The reference's 3x3 convolutions, read one output at a time. -/
module

public import proofs.«01_k».proof.Proof.Gen.ReferenceIdeal.Run
public import proofs.«01_k».proof.Proof.Spec
public import Idealize.ShloMosaic.Lib.Pipeline.ValueKit
public import Idealize.ShloMosaic.Lib.Pointwise

@[expose] public section

set_option maxRecDepth 8192
set_option maxHeartbeats 4000000

noncomputable section

namespace Cert.ReferenceIdeal.Net

open Idealize.ShloMosaic Idealize.ShloMosaic.TcCoe
open Cert.ReferenceIdeal Cert.ReferenceIdeal.Gen Cert.ReferenceIdeal.Value Cert.Net

/-- A three-channel-plus-coordinates image with a border of zeros. -/
def pad5 (f : FVec Ideal S32x5x32x32 .f32) : FVec Ideal S32x5x34x34 .f32 :=
  pad S32x5x34x34 ![0, 0, 1, 1] ![0, 0, 1, 1] ![0, 0, 0, 0] f (sitofp .f32 (constantI S_ 32 0#32)) pads_S32x5x32x32_S32x5x34x34_000_000_110_110 h_S_

/-- A sixteen-channel image with a border of zeros. -/
def pad16 (f : FVec Ideal S32x16x32x32 .f32) : FVec Ideal S32x16x34x34 .f32 :=
  pad S32x16x34x34 ![0, 0, 1, 1] ![0, 0, 1, 1] ![0, 0, 0, 0] f (sitofp .f32 (constantI S_ 32 0#32)) pads_S32x16x32x32_S32x16x34x34_000_000_110_110 h_S_

/-- The first layer's convolution of the bordered image. -/
def refConv8 (p : FVec Ideal S32x5x34x34 .f32) (w : FVec Ideal S8x5x3x3 .f32) (b : FVec Ideal S8 .f32) : FVec Ideal S32x8x32x32 .f32 :=
  (addf (addf (addf (addf (addf (addf (addf (addf (addf (addf (broadcastInDim S32x8x32x32 ![] bcast_S_S32x8x32x32 (constant S_ .f32 0x00000000#32)) (transpose S32x8x32x32 [1, 0, 2, 3] (Host.dotGeneral dot_S8x5_S32x5x32x32_S8x32x32x32_1_1_0_023_n_n none (shapeCast S8x5 (extractStridedSlice S8x5x1x1 ![0, 0, 0, 0] w slices_S8x5x3x3_S8x5x1x1_0_0_0_0) shapeCasts_S8x5x1x1_S8x5) (extractStridedSlice S32x5x32x32 ![0, 0, 0, 0] p slices_S32x5x34x34_S32x5x32x32_0_0_0_0)) transposes_S8x32x32x32_S32x8x32x32_1_0_2_3)) (transpose S32x8x32x32 [1, 0, 2, 3] (Host.dotGeneral dot_S8x5_S32x5x32x32_S8x32x32x32_1_1_0_023_n_n none (shapeCast S8x5 (extractStridedSlice S8x5x1x1 ![0, 0, 0, 1] w slices_S8x5x3x3_S8x5x1x1_0_0_0_1) shapeCasts_S8x5x1x1_S8x5) (extractStridedSlice S32x5x32x32 ![0, 0, 0, 1] p slices_S32x5x34x34_S32x5x32x32_0_0_0_1)) transposes_S8x32x32x32_S32x8x32x32_1_0_2_3)) (transpose S32x8x32x32 [1, 0, 2, 3] (Host.dotGeneral dot_S8x5_S32x5x32x32_S8x32x32x32_1_1_0_023_n_n none (shapeCast S8x5 (extractStridedSlice S8x5x1x1 ![0, 0, 0, 2] w slices_S8x5x3x3_S8x5x1x1_0_0_0_2) shapeCasts_S8x5x1x1_S8x5) (extractStridedSlice S32x5x32x32 ![0, 0, 0, 2] p slices_S32x5x34x34_S32x5x32x32_0_0_0_2)) transposes_S8x32x32x32_S32x8x32x32_1_0_2_3)) (transpose S32x8x32x32 [1, 0, 2, 3] (Host.dotGeneral dot_S8x5_S32x5x32x32_S8x32x32x32_1_1_0_023_n_n none (shapeCast S8x5 (extractStridedSlice S8x5x1x1 ![0, 0, 1, 0] w slices_S8x5x3x3_S8x5x1x1_0_0_1_0) shapeCasts_S8x5x1x1_S8x5) (extractStridedSlice S32x5x32x32 ![0, 0, 1, 0] p slices_S32x5x34x34_S32x5x32x32_0_0_1_0)) transposes_S8x32x32x32_S32x8x32x32_1_0_2_3)) (transpose S32x8x32x32 [1, 0, 2, 3] (Host.dotGeneral dot_S8x5_S32x5x32x32_S8x32x32x32_1_1_0_023_n_n none (shapeCast S8x5 (extractStridedSlice S8x5x1x1 ![0, 0, 1, 1] w slices_S8x5x3x3_S8x5x1x1_0_0_1_1) shapeCasts_S8x5x1x1_S8x5) (extractStridedSlice S32x5x32x32 ![0, 0, 1, 1] p slices_S32x5x34x34_S32x5x32x32_0_0_1_1)) transposes_S8x32x32x32_S32x8x32x32_1_0_2_3)) (transpose S32x8x32x32 [1, 0, 2, 3] (Host.dotGeneral dot_S8x5_S32x5x32x32_S8x32x32x32_1_1_0_023_n_n none (shapeCast S8x5 (extractStridedSlice S8x5x1x1 ![0, 0, 1, 2] w slices_S8x5x3x3_S8x5x1x1_0_0_1_2) shapeCasts_S8x5x1x1_S8x5) (extractStridedSlice S32x5x32x32 ![0, 0, 1, 2] p slices_S32x5x34x34_S32x5x32x32_0_0_1_2)) transposes_S8x32x32x32_S32x8x32x32_1_0_2_3)) (transpose S32x8x32x32 [1, 0, 2, 3] (Host.dotGeneral dot_S8x5_S32x5x32x32_S8x32x32x32_1_1_0_023_n_n none (shapeCast S8x5 (extractStridedSlice S8x5x1x1 ![0, 0, 2, 0] w slices_S8x5x3x3_S8x5x1x1_0_0_2_0) shapeCasts_S8x5x1x1_S8x5) (extractStridedSlice S32x5x32x32 ![0, 0, 2, 0] p slices_S32x5x34x34_S32x5x32x32_0_0_2_0)) transposes_S8x32x32x32_S32x8x32x32_1_0_2_3)) (transpose S32x8x32x32 [1, 0, 2, 3] (Host.dotGeneral dot_S8x5_S32x5x32x32_S8x32x32x32_1_1_0_023_n_n none (shapeCast S8x5 (extractStridedSlice S8x5x1x1 ![0, 0, 2, 1] w slices_S8x5x3x3_S8x5x1x1_0_0_2_1) shapeCasts_S8x5x1x1_S8x5) (extractStridedSlice S32x5x32x32 ![0, 0, 2, 1] p slices_S32x5x34x34_S32x5x32x32_0_0_2_1)) transposes_S8x32x32x32_S32x8x32x32_1_0_2_3)) (transpose S32x8x32x32 [1, 0, 2, 3] (Host.dotGeneral dot_S8x5_S32x5x32x32_S8x32x32x32_1_1_0_023_n_n none (shapeCast S8x5 (extractStridedSlice S8x5x1x1 ![0, 0, 2, 2] w slices_S8x5x3x3_S8x5x1x1_0_0_2_2) shapeCasts_S8x5x1x1_S8x5) (extractStridedSlice S32x5x32x32 ![0, 0, 2, 2] p slices_S32x5x34x34_S32x5x32x32_0_0_2_2)) transposes_S8x32x32x32_S32x8x32x32_1_0_2_3)) (broadcastInDim S32x8x32x32 ![0, 1, 2, 3] bcast_S1x8x1x1_S32x8x32x32_0_1_2_3 (broadcastInDim S1x8x1x1 ![1] bcast_S8_S1x8x1x1_1 b)))

/-- The second layer's convolution of the bordered image. -/
def refConv16 (p : FVec Ideal S32x16x34x34 .f32) (w : FVec Ideal S16x16x3x3 .f32) (b : FVec Ideal S16 .f32) : FVec Ideal S32x16x32x32 .f32 :=
  addf (addf (addf (addf (addf (addf (addf (addf (addf (addf (broadcastInDim S32x16x32x32 ![] bcast_S_S32x16x32x32 (constant S_ .f32 0x00000000#32)) (transpose S32x16x32x32 [1, 0, 2, 3] (Host.dotGeneral dot_S16x16_S32x16x32x32_S16x32x32x32_1_1_0_023_n_n none (shapeCast S16x16 (extractStridedSlice S16x16x1x1 ![0, 0, 0, 0] w slices_S16x16x3x3_S16x16x1x1_0_0_0_0) shapeCasts_S16x16x1x1_S16x16) (extractStridedSlice S32x16x32x32 ![0, 0, 0, 0] p slices_S32x16x34x34_S32x16x32x32_0_0_0_0)) transposes_S16x32x32x32_S32x16x32x32_1_0_2_3)) (transpose S32x16x32x32 [1, 0, 2, 3] (Host.dotGeneral dot_S16x16_S32x16x32x32_S16x32x32x32_1_1_0_023_n_n none (shapeCast S16x16 (extractStridedSlice S16x16x1x1 ![0, 0, 0, 1] w slices_S16x16x3x3_S16x16x1x1_0_0_0_1) shapeCasts_S16x16x1x1_S16x16) (extractStridedSlice S32x16x32x32 ![0, 0, 0, 1] p slices_S32x16x34x34_S32x16x32x32_0_0_0_1)) transposes_S16x32x32x32_S32x16x32x32_1_0_2_3)) (transpose S32x16x32x32 [1, 0, 2, 3] (Host.dotGeneral dot_S16x16_S32x16x32x32_S16x32x32x32_1_1_0_023_n_n none (shapeCast S16x16 (extractStridedSlice S16x16x1x1 ![0, 0, 0, 2] w slices_S16x16x3x3_S16x16x1x1_0_0_0_2) shapeCasts_S16x16x1x1_S16x16) (extractStridedSlice S32x16x32x32 ![0, 0, 0, 2] p slices_S32x16x34x34_S32x16x32x32_0_0_0_2)) transposes_S16x32x32x32_S32x16x32x32_1_0_2_3)) (transpose S32x16x32x32 [1, 0, 2, 3] (Host.dotGeneral dot_S16x16_S32x16x32x32_S16x32x32x32_1_1_0_023_n_n none (shapeCast S16x16 (extractStridedSlice S16x16x1x1 ![0, 0, 1, 0] w slices_S16x16x3x3_S16x16x1x1_0_0_1_0) shapeCasts_S16x16x1x1_S16x16) (extractStridedSlice S32x16x32x32 ![0, 0, 1, 0] p slices_S32x16x34x34_S32x16x32x32_0_0_1_0)) transposes_S16x32x32x32_S32x16x32x32_1_0_2_3)) (transpose S32x16x32x32 [1, 0, 2, 3] (Host.dotGeneral dot_S16x16_S32x16x32x32_S16x32x32x32_1_1_0_023_n_n none (shapeCast S16x16 (extractStridedSlice S16x16x1x1 ![0, 0, 1, 1] w slices_S16x16x3x3_S16x16x1x1_0_0_1_1) shapeCasts_S16x16x1x1_S16x16) (extractStridedSlice S32x16x32x32 ![0, 0, 1, 1] p slices_S32x16x34x34_S32x16x32x32_0_0_1_1)) transposes_S16x32x32x32_S32x16x32x32_1_0_2_3)) (transpose S32x16x32x32 [1, 0, 2, 3] (Host.dotGeneral dot_S16x16_S32x16x32x32_S16x32x32x32_1_1_0_023_n_n none (shapeCast S16x16 (extractStridedSlice S16x16x1x1 ![0, 0, 1, 2] w slices_S16x16x3x3_S16x16x1x1_0_0_1_2) shapeCasts_S16x16x1x1_S16x16) (extractStridedSlice S32x16x32x32 ![0, 0, 1, 2] p slices_S32x16x34x34_S32x16x32x32_0_0_1_2)) transposes_S16x32x32x32_S32x16x32x32_1_0_2_3)) (transpose S32x16x32x32 [1, 0, 2, 3] (Host.dotGeneral dot_S16x16_S32x16x32x32_S16x32x32x32_1_1_0_023_n_n none (shapeCast S16x16 (extractStridedSlice S16x16x1x1 ![0, 0, 2, 0] w slices_S16x16x3x3_S16x16x1x1_0_0_2_0) shapeCasts_S16x16x1x1_S16x16) (extractStridedSlice S32x16x32x32 ![0, 0, 2, 0] p slices_S32x16x34x34_S32x16x32x32_0_0_2_0)) transposes_S16x32x32x32_S32x16x32x32_1_0_2_3)) (transpose S32x16x32x32 [1, 0, 2, 3] (Host.dotGeneral dot_S16x16_S32x16x32x32_S16x32x32x32_1_1_0_023_n_n none (shapeCast S16x16 (extractStridedSlice S16x16x1x1 ![0, 0, 2, 1] w slices_S16x16x3x3_S16x16x1x1_0_0_2_1) shapeCasts_S16x16x1x1_S16x16) (extractStridedSlice S32x16x32x32 ![0, 0, 2, 1] p slices_S32x16x34x34_S32x16x32x32_0_0_2_1)) transposes_S16x32x32x32_S32x16x32x32_1_0_2_3)) (transpose S32x16x32x32 [1, 0, 2, 3] (Host.dotGeneral dot_S16x16_S32x16x32x32_S16x32x32x32_1_1_0_023_n_n none (shapeCast S16x16 (extractStridedSlice S16x16x1x1 ![0, 0, 2, 2] w slices_S16x16x3x3_S16x16x1x1_0_0_2_2) shapeCasts_S16x16x1x1_S16x16) (extractStridedSlice S32x16x32x32 ![0, 0, 2, 2] p slices_S32x16x34x34_S32x16x32x32_0_0_2_2)) transposes_S16x32x32x32_S32x16x32x32_1_0_2_3)) (broadcastInDim S32x16x32x32 ![0, 1, 2, 3] bcast_S1x16x1x1_S32x16x32x32_0_1_2_3 (broadcastInDim S1x16x1x1 ![1] bcast_S16_S1x16x1x1_1 b))

theorem zero_word : (FloatOps.sitofp FTy.f32 0#32 : Ideal FTy.f32) = (0 : EReal) := by
  show (((0#32 : BitVec 32).toInt : ℝ) : EReal) = 0
  simp

/-- The bordered image at a displaced pixel. -/
theorem pad5_apply (f : FVec Ideal S32x5x32x32 .f32) (n : Fin 32) (c : Fin 5) (q : Fin 1024) (i j : Fin 3) :
    pad5 f (ix4 n c (⟨q.val / 32 + i.val, by omega⟩ : Fin 34) (⟨q.val % 32 + j.val, by omega⟩ : Fin 34))
      = tap (fun q c => f (ix4 n c (⟨q.val / 32, by omega⟩ : Fin 32) (⟨q.val % 32, by omega⟩ : Fin 32))) i j q c := by
  pointwise [pad5]
  unfold tap
  by_cases h : (1 ≤ q.val / 32 + i.val ∧ q.val / 32 + i.val ≤ 32) ∧ 1 ≤ q.val % 32 + j.val ∧ q.val % 32 + j.val ≤ 32
  · rw [dif_pos (by omega), dif_pos h]
    congr 2 <;> refine Fin.ext ?_ <;> dsimp only <;> omega
  · rw [dif_neg (by omega), dif_neg h]
    exact zero_word

theorem pad16_apply (f : FVec Ideal S32x16x32x32 .f32) (n : Fin 32) (c : Fin 16) (q : Fin 1024) (i j : Fin 3) :
    pad16 f (ix4 n c (⟨q.val / 32 + i.val, by omega⟩ : Fin 34) (⟨q.val % 32 + j.val, by omega⟩ : Fin 34))
      = tap (fun q c => f (ix4 n c (⟨q.val / 32, by omega⟩ : Fin 32) (⟨q.val % 32, by omega⟩ : Fin 32))) i j q c := by
  pointwise [pad16]
  unfold tap
  by_cases h : (1 ≤ q.val / 32 + i.val ∧ q.val / 32 + i.val ≤ 32) ∧ 1 ≤ q.val % 32 + j.val ∧ q.val % 32 + j.val ≤ 32
  · rw [dif_pos (by omega), dif_pos h]
    congr 2 <;> refine Fin.ext ?_ <;> dsimp only <;> omega
  · rw [dif_neg (by omega), dif_neg h]
    exact zero_word

theorem refConv8_read (p : FVec Ideal S32x5x34x34 .f32) (w : FVec Ideal S8x5x3x3 .f32) (b : FVec Ideal S8 .f32) (n : Fin 32) (o : Fin 8) (y x : Fin 32) :
    refConv8 p w b (ix4 n o y x) = (∑ i : Fin 3, ∑ j : Fin 3, ∑ c, w (ix4 o c i j) * p (ix4 n c (⟨y.val + i.val, by omega⟩ : Fin 34) (⟨x.val + j.val, by omega⟩ : Fin 34))) + b (ix1 o) := by
  pointwise [refConv8]
  simp only [Fin.sum_univ_three, ← add_assoc, add_comm 1, add_comm 2]
  rfl

theorem refConv16_read (p : FVec Ideal S32x16x34x34 .f32) (w : FVec Ideal S16x16x3x3 .f32) (b : FVec Ideal S16 .f32) (n : Fin 32) (o : Fin 16) (y x : Fin 32) :
    refConv16 p w b (ix4 n o y x) = (∑ i : Fin 3, ∑ j : Fin 3, ∑ c, w (ix4 o c i j) * p (ix4 n c (⟨y.val + i.val, by omega⟩ : Fin 34) (⟨x.val + j.val, by omega⟩ : Fin 34))) + b (ix1 o) := by
  pointwise [refConv16]
  simp only [Fin.sum_univ_three, ← add_assoc, add_comm 1, add_comm 2]
  rfl

/-- The first layer's convolution at pixel `q`. -/
theorem refConv8_apply (f : FVec Ideal S32x5x32x32 .f32) (w : FVec Ideal S8x5x3x3 .f32) (b : FVec Ideal S8 .f32) (n : Fin 32) (o : Fin 8) (q : Fin 1024) :
    refConv8 (pad5 f) w b (ix4 n o (⟨q.val / 32, by omega⟩ : Fin 32) (⟨q.val % 32, by omega⟩ : Fin 32))
      = convAt (fun q c => f (ix4 n c (⟨q.val / 32, by omega⟩ : Fin 32) (⟨q.val % 32, by omega⟩ : Fin 32)))
          (fun i j c o => w (ix4 o c i j)) (fun o => b (ix1 o)) q o := by
  rw [refConv8_read]
  unfold convAt
  refine congrArg (· + b (ix1 o)) (Finset.sum_congr rfl fun i _ => Finset.sum_congr rfl fun j _ => Finset.sum_congr rfl fun c _ => ?_)
  rw [mul_comm]
  exact congrArg (· * w (ix4 o c i j)) (pad5_apply f n c q i j)

/-- The second layer's convolution at pixel `q`. -/
theorem refConv16_apply (f : FVec Ideal S32x16x32x32 .f32) (w : FVec Ideal S16x16x3x3 .f32) (b : FVec Ideal S16 .f32) (n : Fin 32) (o : Fin 16) (q : Fin 1024) :
    refConv16 (pad16 f) w b (ix4 n o (⟨q.val / 32, by omega⟩ : Fin 32) (⟨q.val % 32, by omega⟩ : Fin 32))
      = convAt (fun q c => f (ix4 n c (⟨q.val / 32, by omega⟩ : Fin 32) (⟨q.val % 32, by omega⟩ : Fin 32)))
          (fun i j c o => w (ix4 o c i j)) (fun o => b (ix1 o)) q o := by
  rw [refConv16_read]
  unfold convAt
  refine congrArg (· + b (ix1 o)) (Finset.sum_congr rfl fun i _ => Finset.sum_congr rfl fun j _ => Finset.sum_congr rfl fun c _ => ?_)
  rw [mul_comm]
  exact congrArg (· * w (ix4 o c i j)) (pad16_apply f n c q i j)

end Cert.ReferenceIdeal.Net

end
-- ==== Proof.RefNear.lean ====
/- The reference's sums over the nearest pixels, read one output at a time. -/
module

public import proofs.«01_k».proof.Proof.Gen.ReferenceIdeal.Run
public import proofs.«01_k».proof.Proof.Spec
public import Idealize.ShloMosaic.Lib.Pipeline.ValueKit
public import Idealize.ShloMosaic.Lib.Pointwise

@[expose] public section

set_option maxRecDepth 8192
set_option maxHeartbeats 4000000

noncomputable section

namespace Cert.ReferenceIdeal.Net

open Idealize.ShloMosaic Idealize.ShloMosaic.TcCoe
open Cert.ReferenceIdeal Cert.ReferenceIdeal.Gen Cert.ReferenceIdeal.Value Cert.Net

/-- The first layer's sum over the pixels at the given positions. -/
def refNear8 (ix : IVec S32x1024x9x1 32) (f : FVec Ideal S32x1024x5 .f32) (w : FVec Ideal S8x5x9 .f32) (b : FVec Ideal S8 .f32) : FVec Ideal S32x8x32x32 .f32 :=
  (shapeCast S32x8x32x32 (transpose S32x8x1024 [0, 2, 1] (addf (Host.dotGeneral dot_S32x1024x9x5_S8x5x9_S32x1024x8_32_12_01_0_n_n none (select (broadcastInDim S32x1024x9x5 ![0, 1, 2] bcast_S32x1024x9_S32x1024x9x5_0_1_2 (Host.reduce IntOp.andi (andi (cmpi .sge ix (broadcastInDim S32x1024x9x1 ![] bcast_S_S32x1024x9x1 (constantI S_ 32 0#32))) (cmpi .sle ix (broadcastInDim S32x1024x9x1 ![0, 1, 2, 3] bcast_S1x1x1x1_S32x1024x9x1_0_1_2_3 (broadcastInDim S1x1x1x1 ![3] bcast_S1_S1x1x1x1_3 (constantI S1 32 1023#32))))) (constantI S_ 1 1#1) reducesTo_S32x1024x9x1_S32x1024x9_d3 h_S_)) (Host.gather gather_S32x1024x5_S32x1024x9x1_S32x1024x9x5_3_1_0_0_1_3_115 f ix) (broadcastInDim S32x1024x9x5 ![] bcast_S_S32x1024x9x5 (constant S_ .f32 0x7FC00000#32))) w) (broadcastInDim S32x1024x8 ![0, 1, 2] bcast_S1x1x8_S32x1024x8_0_1_2 (broadcastInDim S1x1x8 ![2] bcast_S8_S1x1x8_2 b))) transposes_S32x1024x8_S32x8x1024_0_2_1) shapeCasts_S32x8x1024_S32x8x32x32)

/-- The second layer's sum over the pixels at the given positions. -/
def refNear16 (ix : IVec S32x1024x9x1 32) (f : FVec Ideal S32x1024x16 .f32) (w : FVec Ideal S16x16x9 .f32) (b : FVec Ideal S16 .f32) : FVec Ideal S32x16x32x32 .f32 :=
  (shapeCast S32x16x32x32 (transpose S32x16x1024 [0, 2, 1] (addf (Host.dotGeneral dot_S32x1024x9x16_S16x16x9_S32x1024x16_32_12_01_0_n_n none (select (broadcastInDim S32x1024x9x16 ![0, 1, 2] bcast_S32x1024x9_S32x1024x9x16_0_1_2 (Host.reduce IntOp.andi (andi (cmpi .sge ix (broadcastInDim S32x1024x9x1 ![] bcast_S_S32x1024x9x1 (constantI S_ 32 0#32))) (cmpi .sle ix (broadcastInDim S32x1024x9x1 ![0, 1, 2, 3] bcast_S1x1x1x1_S32x1024x9x1_0_1_2_3 (broadcastInDim S1x1x1x1 ![3] bcast_S1_S1x1x1x1_3 (constantI S1 32 1023#32))))) (constantI S_ 1 1#1) reducesTo_S32x1024x9x1_S32x1024x9_d3 h_S_)) (Host.gather gather_S32x1024x16_S32x1024x9x1_S32x1024x9x16_3_1_0_0_1_3_1116 f ix) (broadcastInDim S32x1024x9x16 ![] bcast_S_S32x1024x9x16 (constant S_ .f32 0x7FC00000#32))) w) (broadcastInDim S32x1024x16 ![0, 1, 2] bcast_S1x1x16_S32x1024x16_0_1_2 (broadcastInDim S1x1x16 ![2] bcast_S16_S1x1x16_2 b))) transposes_S32x1024x16_S32x16x1024_0_2_1) shapeCasts_S32x16x1024_S32x16x32x32)

theorem above_read (s : Fin 1024 → EReal) (k k' : Fin 1024) :
    (FloatOps.cmpfTotal (F := Ideal) (φ := .f32) .gt (s k) (s k') == 1#1) = above s k k' := by
  show (Ideal.cmp .ogt (s k) (s k') == 1#1) = decide (s k' < s k)
  by_cases h : s k' < s k
  · simp [Ideal.cmp, h]
  · simp [Ideal.cmp, h]

theorem sort_read (x : FVec Ideal S32x1024x1024 .f32) (y : IVec S32x1024x1024 32) (n : Fin 32) (q r : Fin 1024) :
    (Host.sort2 S32x1024x1024 2 (fun l r => FloatOps.cmpfTotal .gt l.1 r.1) x y).2 (ix3 n q r)
      = y (ix3 n q (ranked (fun k => x (ix3 n q k)) r)) := by
  have e : ∀ (h : 2 < S32x1024x1024.rank) (k : Fin 1024), Shape.Idx.along (s := S32x1024x1024) (ix3 n q r) ⟨2, h⟩ k = ix3 n q k := by
    intro h k
    funext a
    fin_cases a <;> rfl
  unfold Host.sort2
  rw [dif_pos (show 2 < S32x1024x1024.rank by decide)]
  refine (congrArg y (e _ _)).trans (congrArg (fun k => y (ix3 n q k)) ?_)
  unfold ranked
  refine congrArg (fun b => sortedFrom b r) ?_
  funext k k'
  refine Eq.trans ?_ (above_read (fun k => x (ix3 n q k)) k k')
  exact congrArg₂ (fun a b => (FloatOps.cmpfTotal (F := Ideal) (φ := .f32) .gt a b == 1#1)) (congrArg x (e _ k)) (congrArg x (e _ k'))

/-- The positions the reference picks: the first nine ranks of the pixel's similarities. -/
theorem topK_read (s : FVec Ideal S32x1024x1024 .f32) (n : Fin 32) (q : Fin 1024) (r : Fin 9) :
    (Host.topK S32x1024x9 2 (FloatOps.cmpfTotal .gt) s sliceFits_S32x1024x1024_S32x1024x9).2 (ix3 n q r)
      = BitVec.ofNat 32 (ranked (fun k => s (ix3 n q k)) (r.castLE (by decide))).val := by
  refine Eq.trans ?_ (sort_read s (fun i => if hd : 2 < S32x1024x1024.rank then iotaInDim S32x1024x1024 32 ⟨2, hd⟩ i else 0#32) n q (r.castLE (by decide)))
  unfold Host.topK
  refine congrArg (Host.sort2 S32x1024x1024 2 (fun l r => FloatOps.cmpfTotal .gt l.1 r.1) s
    (fun i => if hd : 2 < S32x1024x1024.rank then iotaInDim S32x1024x1024 32 ⟨2, hd⟩ i else 0#32)).2 ?_
  funext a
  fin_cases a <;> exact Fin.ext (Nat.zero_add _)

theorem in_range : ∀ p : Fin 1024, IntOp.cmpi CmpIPredicate.slt (BitVec.ofNat 32 p.val) 0#32 = 0#1
    ∧ IntOp.andi (IntOp.cmpi CmpIPredicate.sge (BitVec.ofNat 32 p.val) 0#32) (IntOp.cmpi CmpIPredicate.sle (BitVec.ofNat 32 p.val) 1023#32) = 1#1
    ∧ (BitVec.ofNat 32 p.val).toInt.toNat = p.val := by decide +kernel

theorem fold_one (g : Fin 1 → BitVec 1) (h : g 0 = 1#1) : Finset.fold IntOp.andi (1#1) g Finset.univ = 1#1 := by
  rw [show (Finset.univ : Finset (Fin 1)) = {0} from rfl, Finset.fold_singleton, h]
  rfl

theorem gather5_read (f : FVec Ideal S32x1024x5 .f32) (ix : IVec S32x1024x9x1 32) (p : Fin 32 → Fin 1024 → Fin 9 → Fin 1024)
    (hix : ∀ n q r, ix (ix4 n q r (0 : Fin 1)) = BitVec.ofNat 32 (p n q r).val) (n : Fin 32) (q : Fin 1024) (r : Fin 9) (c : Fin 5) :
    Host.gather gather_S32x1024x5_S32x1024x9x1_S32x1024x9x5_3_1_0_0_1_3_115 f ix (ix4 n q r c) = f (ix3 n (p n q r) c) := by
  unfold Host.gather
  refine congrArg f ?_
  funext a
  refine Fin.ext ?_
  show (gather_S32x1024x5_S32x1024x9x1_S32x1024x9x5_3_1_0_0_1_3_115).start (ix4 n q r c) ix a
    + (gather_S32x1024x5_S32x1024x9x1_S32x1024x9x5_3_1_0_0_1_3_115).batchCoord (ix4 n q r c) a
    + (gather_S32x1024x5_S32x1024x9x1_S32x1024x9x5_3_1_0_0_1_3_115).offCoord (ix4 n q r c) a = _
  have h012 : a = 0 ∨ a = 1 ∨ a = 2 := by revert a; decide
  rcases h012 with rfl | rfl | rfl
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.batchCoord_eq_zero _ _ _ (by decide), GatherDims.offCoord_eq_zero _ _ _ (by decide)]
    simp only [Nat.add_zero]
    unfold GatherDims.start
    rw [dif_pos (by decide)]
    have e : ∀ h, (gather_S32x1024x5_S32x1024x9x1_S32x1024x9x5_3_1_0_0_1_3_115).siIdx (ix4 n q r c) ⟨List.idxOf (1 : Fin 3) (gather_S32x1024x5_S32x1024x9x1_S32x1024x9x5_3_1_0_0_1_3_115).startIndexMap, h⟩
        = ix4 n q r (0 : Fin 1) := by
      intro h
      funext b
      refine Fin.ext ?_
      fin_cases b <;> rfl
    refine (congrArg (fun w : BitVec 32 => min w.toInt.toNat 1023) ((congrArg ix (e _)).trans (hix n q r))).trans ?_
    have := (in_range (p n q r)).2.2
    show min (BitVec.ofNat 32 (p n q r).val).toInt.toNat 1023 = (p n q r).val
    omega
  · rw [GatherDims.batchCoord_eq_zero _ _ _ (by decide)]
    unfold GatherDims.start GatherDims.offCoord
    rw [dif_neg (by decide), dif_pos (by decide)]
    simp only [Nat.zero_add]
    rfl

/-- The sum over the nearest pixels at one pixel, for given positions. -/
theorem refNear8_read (ix : IVec S32x1024x9x1 32) (f : FVec Ideal S32x1024x5 .f32) (w : FVec Ideal S8x5x9 .f32) (b : FVec Ideal S8 .f32)
    (p : Fin 32 → Fin 1024 → Fin 9 → Fin 1024)
    (hix : ∀ n q r, ix (ix4 n q r (0 : Fin 1)) = BitVec.ofNat 32 (p n q r).val) (n : Fin 32) (o : Fin 8) (q : Fin 1024) :
    refNear8 ix f w b (ix4 n o (⟨q.val / 32, by omega⟩ : Fin 32) (⟨q.val % 32, by omega⟩ : Fin 32))
      = (∑ r, ∑ c, f (ix3 n (p n q r) c) * w (ix3 o c r)) + b (ix1 o) := by
  pointwise [refNear8]
  rw [Finset.sum_comm]
  refine congrArg (· + b (ix1 o)) (Finset.sum_congr rfl fun r _ => Finset.sum_congr rfl fun c _ => congrArg (· * w (ix3 o c r)) ?_)
  rw [fold_one _ (by rw [hix]; exact (in_range (p n q r)).2.1), gather5_read f ix p hix n q r c]
  rfl

theorem gather16_read (f : FVec Ideal S32x1024x16 .f32) (ix : IVec S32x1024x9x1 32) (p : Fin 32 → Fin 1024 → Fin 9 → Fin 1024)
    (hix : ∀ n q r, ix (ix4 n q r (0 : Fin 1)) = BitVec.ofNat 32 (p n q r).val) (n : Fin 32) (q : Fin 1024) (r : Fin 9) (c : Fin 16) :
    Host.gather gather_S32x1024x16_S32x1024x9x1_S32x1024x9x16_3_1_0_0_1_3_1116 f ix (ix4 n q r c) = f (ix3 n (p n q r) c) := by
  unfold Host.gather
  refine congrArg f ?_
  funext a
  refine Fin.ext ?_
  show (gather_S32x1024x16_S32x1024x9x1_S32x1024x9x16_3_1_0_0_1_3_1116).start (ix4 n q r c) ix a
    + (gather_S32x1024x16_S32x1024x9x1_S32x1024x9x16_3_1_0_0_1_3_1116).batchCoord (ix4 n q r c) a
    + (gather_S32x1024x16_S32x1024x9x1_S32x1024x9x16_3_1_0_0_1_3_1116).offCoord (ix4 n q r c) a = _
  have h012 : a = 0 ∨ a = 1 ∨ a = 2 := by revert a; decide
  rcases h012 with rfl | rfl | rfl
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.batchCoord_eq_zero _ _ _ (by decide), GatherDims.offCoord_eq_zero _ _ _ (by decide)]
    simp only [Nat.add_zero]
    unfold GatherDims.start
    rw [dif_pos (by decide)]
    have e : ∀ h, (gather_S32x1024x16_S32x1024x9x1_S32x1024x9x16_3_1_0_0_1_3_1116).siIdx (ix4 n q r c) ⟨List.idxOf (1 : Fin 3) (gather_S32x1024x16_S32x1024x9x1_S32x1024x9x16_3_1_0_0_1_3_1116).startIndexMap, h⟩
        = ix4 n q r (0 : Fin 1) := by
      intro h
      funext b
      refine Fin.ext ?_
      fin_cases b <;> rfl
    refine (congrArg (fun w : BitVec 32 => min w.toInt.toNat 1023) ((congrArg ix (e _)).trans (hix n q r))).trans ?_
    have := (in_range (p n q r)).2.2
    show min (BitVec.ofNat 32 (p n q r).val).toInt.toNat 1023 = (p n q r).val
    omega
  · rw [GatherDims.batchCoord_eq_zero _ _ _ (by decide)]
    unfold GatherDims.start GatherDims.offCoord
    rw [dif_neg (by decide), dif_pos (by decide)]
    simp only [Nat.zero_add]
    rfl

/-- The sum over the nearest pixels at one pixel, for given positions. -/
theorem refNear16_read (ix : IVec S32x1024x9x1 32) (f : FVec Ideal S32x1024x16 .f32) (w : FVec Ideal S16x16x9 .f32) (b : FVec Ideal S16 .f32)
    (p : Fin 32 → Fin 1024 → Fin 9 → Fin 1024)
    (hix : ∀ n q r, ix (ix4 n q r (0 : Fin 1)) = BitVec.ofNat 32 (p n q r).val) (n : Fin 32) (o : Fin 16) (q : Fin 1024) :
    refNear16 ix f w b (ix4 n o (⟨q.val / 32, by omega⟩ : Fin 32) (⟨q.val % 32, by omega⟩ : Fin 32))
      = (∑ r, ∑ c, f (ix3 n (p n q r) c) * w (ix3 o c r)) + b (ix1 o) := by
  pointwise [refNear16]
  rw [Finset.sum_comm]
  refine congrArg (· + b (ix1 o)) (Finset.sum_congr rfl fun r _ => Finset.sum_congr rfl fun c _ => congrArg (· * w (ix3 o c r)) ?_)
  rw [fold_one _ (by rw [hix]; exact (in_range (p n q r)).2.1), gather16_read f ix p hix n q r c]
  rfl

end Cert.ReferenceIdeal.Net

end
-- ==== Proof.RefSpec.lean ====
/- The reference's result as the network's mathematics. -/
module

public import proofs.«01_k».proof.Proof.RefConv
public import proofs.«01_k».proof.Proof.RefNear
public import proofs.«01_k».proof.Proof.Whole

@[expose] public section

set_option maxRecDepth 16384
set_option maxHeartbeats 4000000

noncomputable section

namespace Cert.ReferenceIdeal.Net

open Idealize.ShloMosaic Idealize.ShloMosaic.TcCoe
open Cert.ReferenceIdeal Cert.ReferenceIdeal.Gen Cert.ReferenceIdeal.Value Cert.Net

variable (V0 : Valuation τ sig (Elt Ideal))

/-- An image's pixel features, five channels. -/
def px5 (f : FVec Ideal S32x5x32x32 .f32) (n : Fin 32) (q : Fin 1024) (c : Fin 5) : EReal :=
  f (ix4 n c (⟨q.val / 32, by omega⟩ : Fin 32) (⟨q.val % 32, by omega⟩ : Fin 32))

/-- An image's pixel features, sixteen channels. -/
def px16 (f : FVec Ideal S32x16x32x32 .f32) (n : Fin 32) (q : Fin 1024) (c : Fin 16) : EReal :=
  f (ix4 n c (⟨q.val / 32, by omega⟩ : Fin 32) (⟨q.val % 32, by omega⟩ : Fin 32))

/-- The first features pixel by pixel, the channels last. -/
theorem flat5_read (f : FVec Ideal S32x5x32x32 .f32) (n : Fin 32) (q : Fin 1024) (c : Fin 5) :
    transpose S32x1024x5 [0, 2, 1] (shapeCast S32x5x1024 f shapeCasts_S32x5x32x32_S32x5x1024) transposes_S32x5x1024_S32x1024x5_0_2_1 (ix3 n q c) = px5 f n q c := by
  pointwise
  rfl

theorem flat16_read (f : FVec Ideal S32x16x32x32 .f32) (n : Fin 32) (q : Fin 1024) (c : Fin 16) :
    transpose S32x1024x16 [0, 2, 1] (shapeCast S32x16x1024 f shapeCasts_S32x16x32x32_S32x16x1024) transposes_S32x16x1024_S32x1024x16_0_2_1 (ix3 n q c) = px16 f n q c := by
  pointwise
  rfl

theorem sims5_read (f : FVec Ideal S32x1024x5 .f32) (n : Fin 32) (q k : Fin 1024) :
    Host.dotGeneral dot_S32x1024x5_S32x1024x5_S32x1024x1024_2_2_1_1_0_0 none f f (ix3 n q k) = ∑ c, f (ix3 n q c) * f (ix3 n k c) := by
  pointwise

theorem sims16_read (f : FVec Ideal S32x1024x16 .f32) (n : Fin 32) (q k : Fin 1024) :
    Host.dotGeneral dot_S32x1024x16_S32x1024x16_S32x1024x1024_2_2_1_1_0_0 none f f (ix3 n q k) = ∑ c, f (ix3 n q c) * f (ix3 n k c) := by
  pointwise

/-- Wrapping leaves a position in range as it is. -/
theorem wrap_read (ix : IVec S32x1024x9 32) (p : Fin 32 → Fin 1024 → Fin 9 → Fin 1024) (hix : ∀ n q r, ix (ix3 n q r) = BitVec.ofNat 32 (p n q r).val)
    (n : Fin 32) (q : Fin 1024) (r : Fin 9) :
    broadcastInDim S32x1024x9x1 ![0, 1, 2] bcast_S32x1024x9_S32x1024x9x1_0_1_2 (select (cmpi .slt ix (broadcastInDim S32x1024x9 ![] bcast_S_S32x1024x9 (constantI S_ 32 0#32))) (addi ix (broadcastInDim S32x1024x9 ![] bcast_S_S32x1024x9 (constantI S_ 32 1024#32))) ix) (ix4 n q r (0 : Fin 1))
      = BitVec.ofNat 32 (p n q r).val := by
  pointwise
  rw [hix, (in_range (p n q r)).1]
  rfl

/-- The first layer's picked positions. -/
theorem picks5 (n : Fin 32) (q : Fin 1024) (r : Fin 9) :
    res_main_call1_v5 V0 (ix4 n q r (0 : Fin 1)) = BitVec.ofNat 32 (near (px5 (res_main_v17 V0) n) q r).val := by
  have h1 : ∀ n q c, res_main_v78 V0 (ix3 n q c) = px5 (res_main_v17 V0) n q c := fun n q c => flat5_read (res_main_v17 V0) n q c
  have h2 : ∀ n q, (fun k => res_main_v79 V0 (ix3 n q k)) = simAt (px5 (res_main_v17 V0) n) q := fun n q => funext fun k =>
    (sims5_read (res_main_v78 V0) n q k).trans (Finset.sum_congr rfl fun c _ => by rw [h1, h1])
  refine wrap_read (res_main_indices V0) (fun n => near (px5 (res_main_v17 V0) n)) (fun n q r => ?_) n q r
  refine (topK_read (res_main_v79 V0) n q r).trans ?_
  rw [h2]
  rfl

/-- The second layer's picked positions. -/
theorem picks16 (n : Fin 32) (q : Fin 1024) (r : Fin 9) :
    res_main_call4_v5 V0 (ix4 n q r (0 : Fin 1)) = BitVec.ofNat 32 (near (px16 (res_main_v88 V0) n) q r).val := by
  have h1 : ∀ n q c, res_main_v149 V0 (ix3 n q c) = px16 (res_main_v88 V0) n q c := fun n q c => flat16_read (res_main_v88 V0) n q c
  have h2 : ∀ n q, (fun k => res_main_v150 V0 (ix3 n q k)) = simAt (px16 (res_main_v88 V0) n) q := fun n q => funext fun k =>
    (sims16_read (res_main_v149 V0) n q k).trans (Finset.sum_congr rfl fun c _ => by rw [h1, h1])
  refine wrap_read (res_main_indices_5 V0) (fun n => near (px16 (res_main_v88 V0) n)) (fun n q r => ?_) n q r
  refine (topK_read (res_main_v150 V0) n q r).trans ?_
  rw [h2]
  rfl

theorem join8_read (a b : FVec Ideal S32x8x32x32 .f32) (n : Fin 32) (c : Fin 16) (y x : Fin 32) :
    maximumf (concatenate S32x16x32x32 1 [⟨S32x8x32x32, a⟩, ⟨S32x8x32x32, b⟩] concatenates_S32x8x32x32_S32x8x32x32_S32x16x32x32_d1)
        (broadcastInDim S32x16x32x32 ![] bcast_S_S32x16x32x32 (constant S_ .f32 0x00000000#32)) (ix4 n c y x)
      = max (if h : c.val < 8 then a (ix4 n (⟨c.val, h⟩ : Fin 8) y x) else b (ix4 n (⟨c.val - 8, by omega⟩ : Fin 8) y x)) 0 := by
  pointwise

theorem join16_read (a b : FVec Ideal S32x16x32x32 .f32) (n : Fin 32) (c : Fin 32) (y x : Fin 32) :
    maximumf (concatenate S32x32x32x32 1 [⟨S32x16x32x32, a⟩, ⟨S32x16x32x32, b⟩] concatenates_S32x16x32x32_S32x16x32x32_S32x32x32x32_d1)
        (broadcastInDim S32x32x32x32 ![] bcast_S_S32x32x32x32 (constant S_ .f32 0x00000000#32)) (ix4 n c y x)
      = max (if h : c.val < 16 then a (ix4 n (⟨c.val, h⟩ : Fin 16) y x) else b (ix4 n (⟨c.val - 16, by omega⟩ : Fin 16) y x)) 0 := by
  pointwise

/-- The first layer, as the reference's steps compose it. -/
theorem v88_eq : res_main_v88 V0 = maximumf (concatenate S32x16x32x32 1
      [⟨S32x8x32x32, refConv8 (pad5 (res_main_v17 V0)) (V0 (Proc.devRef .tc main_arg1)) (V0 (Proc.devRef .tc main_arg2))⟩,
       ⟨S32x8x32x32, refNear8 (res_main_call1_v5 V0) (res_main_v78 V0) (V0 (Proc.devRef .tc main_arg3)) (V0 (Proc.devRef .tc main_arg4))⟩]
      concatenates_S32x8x32x32_S32x8x32x32_S32x16x32x32_d1)
    (broadcastInDim S32x16x32x32 ![] bcast_S_S32x16x32x32 (constant S_ .f32 0x00000000#32)) := (rfl)

/-- The second layer, as the reference's steps compose it. -/
def v159 : FVec Ideal S32x32x32x32 .f32 := maximumf (concatenate S32x32x32x32 1
      [⟨S32x16x32x32, refConv16 (pad16 (res_main_v88 V0)) (V0 (Proc.devRef .tc main_arg5)) (V0 (Proc.devRef .tc main_arg6))⟩,
       ⟨S32x16x32x32, refNear16 (res_main_call4_v5 V0) (res_main_v149 V0) (V0 (Proc.devRef .tc main_arg7)) (V0 (Proc.devRef .tc main_arg8))⟩]
      concatenates_S32x16x32x32_S32x16x32x32_S32x32x32x32_d1)
    (broadcastInDim S32x32x32x32 ![] bcast_S_S32x32x32x32 (constant S_ .f32 0x00000000#32))

/-- The first layer's features. -/
theorem first_read (n : Fin 32) (q : Fin 1024) (c : Fin 16) :
    px16 (res_main_v88 V0) n q c = first (px5 (res_main_v17 V0) n) (fun i j c o => V0 (Proc.devRef .tc main_arg1) (ix4 o c i j))
      (fun o => V0 (Proc.devRef .tc main_arg2) (ix1 o)) (fun k c o => V0 (Proc.devRef .tc main_arg3) (ix3 o c k))
      (fun o => V0 (Proc.devRef .tc main_arg4) (ix1 o)) q c := by
  unfold px16
  rw [v88_eq, join8_read]
  unfold first layerAt
  refine congrArg (max · 0) ?_
  split_ifs with h
  · exact refConv8_apply _ _ _ _ _ _
  · refine (refNear8_read _ _ _ _ (fun n => near (px5 (res_main_v17 V0) n)) (picks5 V0) n _ q).trans ?_
    unfold nearAt
    refine congrArg (· + _) (Finset.sum_congr rfl fun r _ => Finset.sum_congr rfl fun c _ => congrArg (· * _) ?_)
    exact flat5_read (res_main_v17 V0) n _ c

/-- The second layer's features. -/
theorem second_read (n : Fin 32) (q : Fin 1024) (c : Fin 32) :
    v159 V0 (ix4 n c (⟨q.val / 32, by omega⟩ : Fin 32) (⟨q.val % 32, by omega⟩ : Fin 32))
      = second (px16 (res_main_v88 V0) n) (fun i j c o => V0 (Proc.devRef .tc main_arg5) (ix4 o c i j))
      (fun o => V0 (Proc.devRef .tc main_arg6) (ix1 o)) (fun k c o => V0 (Proc.devRef .tc main_arg7) (ix3 o c k))
      (fun o => V0 (Proc.devRef .tc main_arg8) (ix1 o)) q c := by
  unfold v159
  rw [join16_read]
  unfold second layerAt
  refine congrArg (max · 0) ?_
  split_ifs with h
  · exact refConv16_apply _ _ _ _ _ _
  · refine (refNear16_read _ _ _ _ (fun n => near (px16 (res_main_v88 V0) n)) (picks16 V0) n _ q).trans ?_
    unfold nearAt
    refine congrArg (· + _) (Finset.sum_congr rfl fun r _ => Finset.sum_congr rfl fun c _ => congrArg (· * _) ?_)
    exact flat16_read (res_main_v88 V0) n _ c

/-- The classifier, as the reference's steps compose it. -/
def refFc (g : FVec Ideal S32x32x32x32 .f32) (w1 : FVec Ideal S1024x32768 .f32) (b1 : FVec Ideal S1024 .f32) (w2 : FVec Ideal S10x1024 .f32) (b2 : FVec Ideal S10 .f32) : FVec Ideal S32x10 .f32 :=
  addf (Host.dotGeneral dot_S32x1024_S1024x10_S32x10_1_0_0_1_n_n none (maximumf (addf (Host.dotGeneral dot_S32x32768_S32768x1024_S32x1024_1_0_0_1_n_n none (shapeCast S32x32768 g shapeCasts_S32x32x32x32_S32x32768) (transpose S32768x1024 [1, 0] w1 transposes_S1024x32768_S32768x1024_1_0)) (broadcastInDim S32x1024 ![0, 1] bcast_S1x1024_S32x1024_0_1 (broadcastInDim S1x1024 ![1] bcast_S1024_S1x1024_1 b1))) (broadcastInDim S32x1024 ![] bcast_S_S32x1024 (constant S_ .f32 0x00000000#32))) (transpose S1024x10 [1, 0] w2 transposes_S10x1024_S1024x10_1_0)) (broadcastInDim S32x10 ![0, 1] bcast_S1x10_S32x10_0_1 (broadcastInDim S1x10 ![1] bcast_S10_S1x10_1 b2))

theorem classify_swap (f f' : Fin 32768 → EReal) (hf : f = f') (w1 : Fin 1024 → Fin 32768 → EReal) (b1 : Fin 1024 → EReal) (w2 : Fin 10 → Fin 1024 → EReal) (b2 : Fin 10 → EReal) (o : Fin 10) :
    (∑ h, max ((∑ k, f k * w1 h k) + b1 h) 0 * w2 o h) + b2 o = classify f' w1 b1 w2 b2 o := by
  subst hf
  have e : ∀ h, (∑ k, f k * w1 h k) = ∑ k, w1 h k * f k := fun h => Finset.sum_congr rfl fun k _ => mul_comm _ _
  have e2 : (∑ h, max ((∑ k, f k * w1 h k) + b1 h) 0 * w2 o h) = ∑ h, w2 o h * max ((∑ k, w1 h k * f k) + b1 h) 0 :=
    Finset.sum_congr rfl fun h _ => by rw [e, mul_comm]
  unfold classify
  rw [e2]

theorem refFc_read (g : FVec Ideal S32x32x32x32 .f32) (w1 : FVec Ideal S1024x32768 .f32) (b1 : FVec Ideal S1024 .f32) (w2 : FVec Ideal S10x1024 .f32) (b2 : FVec Ideal S10 .f32)
    (n : Fin 32) (o : Fin 10) :
    refFc g w1 b1 w2 b2 (ix2 n o) = classify (fun k => g (ix4 n (⟨k.val / 1024, by omega⟩ : Fin 32) (⟨k.val % 1024 / 32, by omega⟩ : Fin 32) (⟨k.val % 1024 % 32, by omega⟩ : Fin 32)))
      (fun h k => w1 (ix2 h k)) (fun h => b1 (ix1 h)) (fun o h => w2 (ix2 o h)) (fun o => b2 (ix1 o)) o := by
  have e : ∀ k : Fin 32768, k.val / 32 % 32 = k.val % 1024 / 32 ∧ k.val % 32 = k.val % 1024 % 32 := fun k => by omega
  pointwise [refFc]
  exact classify_swap (fun k => g (ix4 n (⟨k.val / 1024, by omega⟩ : Fin 32) (⟨k.val / 32 % 32, by omega⟩ : Fin 32) (⟨k.val % 32, by omega⟩ : Fin 32))) _
    (funext fun k => congrArg₂ (fun y x : Fin 32 => g (ix4 n (⟨k.val / 1024, by omega⟩ : Fin 32) y x)) (Fin.ext (e k).1) (Fin.ext (e k).2))
    (fun h k => w1 (ix2 h k)) (fun h => b1 (ix1 h)) (fun o h => w2 (ix2 o h)) (fun o => b2 (ix1 o)) o

end Cert.ReferenceIdeal.Net

end
-- ==== Proof.Same.lean ====
/- The kernel's result is the reference's, for images with real entries. -/
module

public import proofs.«01_k».proof.Proof.KerSpec
public import proofs.«01_k».proof.Proof.RefSpec
public import proofs.«01_k».proof.Proof.Gen.Pre_finite_x

@[expose] public section

set_option maxRecDepth 16384

noncomputable section

namespace Cert.Same

open Idealize.ShloMosaic Idealize.ShloMosaic.TcCoe
open Cert.Net

/-- The precondition makes every entry of the images real. -/
theorem real_of_finite (a0 : FVec Ideal Cert.Pre_finite_x.S32x3x32x32 .f32) (a1 a2 a3 a4 a5 a6 a7 a8 a9 a10 a11 a12)
    (h : Cert.Pre_finite_x.fn (F := Ideal) a0 a1 a2 a3 a4 a5 a6 a7 a8 a9 a10 a11 a12 = fun _ => 1#1) (n : Fin 32) (c : Fin 3) (i j : Fin 32) :
    ∃ r : ℝ, a0 (ix4 n c i j) = r := by
  have h1 := congrFun h (ix4 n c i j)
  have top : (Ideal.ofBits .f32 0x7F800000#32 : EReal) = ⊤ := by simp [Ideal.ofBits, Ideal.ieee]
  have h2 : BitVec.ofBool (decide (max (a0 (ix4 n c i j) : EReal) (-(a0 (ix4 n c i j) : EReal)) < Ideal.ofBits .f32 0x7F800000#32)) = 1#1 := h1
  rw [top] at h2
  generalize (a0 (ix4 n c i j) : EReal) = y at h2 ⊢
  induction y using EReal.rec with
  | bot => simp at h2
  | top => simp at h2
  | coe r => exact ⟨r, rfl⟩

section Ref

open Cert.ReferenceIdeal Cert.ReferenceIdeal.Gen Cert.ReferenceIdeal.Value Cert.ReferenceIdeal.Net

/-- The reference's result, one image and class at a time. -/
theorem ref_read (V0 : Valuation τ sig (Elt Ideal)) (n : Fin 32) (o : Fin 10) :
    refFc (v159 V0) (V0 (Proc.devRef .tc main_arg9)) (V0 (Proc.devRef .tc main_arg10)) (V0 (Proc.devRef .tc main_arg11)) (V0 (Proc.devRef .tc main_arg12)) (ix2 n o)
      = classify (fun k => second (first (px5 (res_main_v17 V0) n) (fun i j c o => V0 (Proc.devRef .tc main_arg1) (ix4 o c i j))
          (fun o => V0 (Proc.devRef .tc main_arg2) (ix1 o)) (fun k c o => V0 (Proc.devRef .tc main_arg3) (ix3 o c k)) (fun o => V0 (Proc.devRef .tc main_arg4) (ix1 o)))
          (fun i j c o => V0 (Proc.devRef .tc main_arg5) (ix4 o c i j)) (fun o => V0 (Proc.devRef .tc main_arg6) (ix1 o))
          (fun k c o => V0 (Proc.devRef .tc main_arg7) (ix3 o c k)) (fun o => V0 (Proc.devRef .tc main_arg8) (ix1 o))
          (⟨k.val % 1024, by omega⟩ : Fin 1024) (⟨k.val / 1024, by omega⟩ : Fin 32))
        (fun h k => V0 (Proc.devRef .tc main_arg9) (ix2 h k)) (fun h => V0 (Proc.devRef .tc main_arg10) (ix1 h))
        (fun o h => V0 (Proc.devRef .tc main_arg11) (ix2 o h)) (fun o => V0 (Proc.devRef .tc main_arg12) (ix1 o)) o := by
  have hf := funext fun q : Fin 1024 => funext fun c : Fin 16 => first_read V0 n q c
  refine (refFc_read (v159 V0) _ _ _ _ n o).trans ?_
  refine congrArg (fun f => classify f _ _ _ _ o) (funext fun k => ?_)
  refine (second_read V0 n (⟨k.val % 1024, by omega⟩ : Fin 1024) (⟨k.val / 1024, by omega⟩ : Fin 32)).trans ?_
  exact congrArg (fun f => second f _ _ _ _ _ _) hf

end Ref

open Cert.KernelIdeal Cert.KernelIdeal.Gen Cert.KernelIdeal.Net

/-- The two results agree on equal arguments. -/
theorem same (V0 : Valuation Cert.ReferenceIdeal.τ Cert.ReferenceIdeal.sig (Elt Ideal))
    (x : FVec Ideal S32x3x32x32 .f32) (w1 : FVec Ideal S8x5x3x3 .f32) (b1 : FVec Ideal S8 .f32) (w2 : FVec Ideal S8x5x9 .f32) (b2 : FVec Ideal S8 .f32)
    (w3 : FVec Ideal S16x16x3x3 .f32) (b3 : FVec Ideal S16 .f32) (w4 : FVec Ideal S16x16x9 .f32) (b4 : FVec Ideal S16 .f32)
    (w5 : FVec Ideal S1024x32768 .f32) (b5 : FVec Ideal S1024 .f32) (w6 : FVec Ideal S10x1024 .f32) (b6 : FVec Ideal S10 .f32)
    (hx : ∀ n c i j, ∃ r : ℝ, x (ix4 n c i j) = r)
    (h0 : V0 (Proc.devRef .tc Cert.ReferenceIdeal.main_arg0) = x) (h1 : V0 (Proc.devRef .tc Cert.ReferenceIdeal.main_arg1) = w1)
    (h2 : V0 (Proc.devRef .tc Cert.ReferenceIdeal.main_arg2) = b1) (h3 : V0 (Proc.devRef .tc Cert.ReferenceIdeal.main_arg3) = w2)
    (h4 : V0 (Proc.devRef .tc Cert.ReferenceIdeal.main_arg4) = b2) (h5 : V0 (Proc.devRef .tc Cert.ReferenceIdeal.main_arg5) = w3)
    (h6 : V0 (Proc.devRef .tc Cert.ReferenceIdeal.main_arg6) = b3) (h7 : V0 (Proc.devRef .tc Cert.ReferenceIdeal.main_arg7) = w4)
    (h8 : V0 (Proc.devRef .tc Cert.ReferenceIdeal.main_arg8) = b4) (h9 : V0 (Proc.devRef .tc Cert.ReferenceIdeal.main_arg9) = w5)
    (h10 : V0 (Proc.devRef .tc Cert.ReferenceIdeal.main_arg10) = b5) (h11 : V0 (Proc.devRef .tc Cert.ReferenceIdeal.main_arg11) = w6)
    (h12 : V0 (Proc.devRef .tc Cert.ReferenceIdeal.main_arg12) = b6) :
    Cert.ReferenceIdeal.Net.refFc (Cert.ReferenceIdeal.Net.v159 V0) (V0 (Proc.devRef .tc Cert.ReferenceIdeal.main_arg9)) (V0 (Proc.devRef .tc Cert.ReferenceIdeal.main_arg10))
        (V0 (Proc.devRef .tc Cert.ReferenceIdeal.main_arg11)) (V0 (Proc.devRef .tc Cert.ReferenceIdeal.main_arg12))
      = transpose S32x10 [1, 0] (fcOut w5 (shapeCast S32x32768 (featsV x w1 b1 w2 b2 w3 b3 w4 b4) shapeCasts_S32x32x1024_S32x32768) w6
        (shapeCast S1024x1 b5 shapeCasts_S1024_S1024x1) (shapeCast S10x1 b6 shapeCasts_S10_S10x1)) transposes_S10x32_S32x10_1_0 := by
  funext y
  rw [eq_ix2 y]
  refine (ref_read V0 _ _).trans ?_
  subst h0 h1 h2 h3 h4 h5 h6 h7 h8 h9 h10 h11 h12
  refine Eq.trans ?_ (fc_read _ _ _ _ _ (y 0) (y 1)).symm
  refine congrArg (fun f => classify f _ _ _ _ _) (funext fun k => ?_)
  exact (feats_read _ hx _ _ _ _ _ _ _ _ (y 0) (⟨k.val / 1024, by omega⟩ : Fin 32) (⟨k.val % 1024, by omega⟩ : Fin 1024)).symm

end Cert.Same

end
-- ==== Proof.lean ====
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_finite_x
public import Idealize.ShloMosaic.Adequacy
public import Idealize.ShloMosaic.Init
public import Idealize.ShloMosaic.Lib.Claim
public import Idealize.ShloMosaic.Lib.Quiescent
public import proofs.«01_k».proof.Proof.RunI
public import proofs.«01_k».proof.Proof.RunB
public import proofs.«01_k».proof.Proof.Same

@[expose] public section

noncomputable section

namespace Cert.Proof

open Idealize.ShloMosaic Idealize.SL.Sem Cert.Kernel

/-- Every run of the kernel leaves its arguments unchanged and its semaphores at zero. -/
theorem kernel_quiescent : Cert.quiescent_Kernel := fun m g _ => Cert.Kernel.Net.frame m g

/-- Every run of the idealized kernel leaves its arguments unchanged and its semaphores at zero. -/
theorem kernelIdeal_quiescent : Cert.quiescent_KernelIdeal := fun m g _ => Cert.KernelIdeal.Net.frame m g

/-- Every run of the idealized reference leaves its arguments unchanged; it has no semaphores. -/
theorem referenceIdeal_quiescent : Cert.quiescent_ReferenceIdeal := fun m g _ =>
  (θ_run Cert.ReferenceIdeal.defs _ _).mono (fun r h => ⟨fun c => (h c).2, sem_eq_zero_of_no_sems rfl r.2⟩)
    (Cert.ReferenceIdeal.Value.run m g)

/-- The idealized kernel and the idealized reference compute the same array from images with finite entries. -/
theorem kernelIdeal_referenceIdeal : Cert.algebraic_KernelIdeal_ReferenceIdeal_pre_finite_x := by
  intro m g m' g' hpre hagree
  refine ⟨fun c => Cert.KernelIdeal.Net.W15 m g c (Proc.devRef .tc Cert.KernelIdeal.main_v40), ?_, ?_⟩
  · exact θ_run_mono (Cert.KernelIdeal.Net.run_main m g) fun r h c => ⟨h.1 c, h.2.1 c⟩
  · refine θ_run_mono (Cert.ReferenceIdeal.Value.run m' g') fun r h c => ⟨(h c).1.trans ?_, (h c).2⟩
    obtain ⟨h0, h1, h2, h3, h4, h5, h6, h7, h8, h9, h10, h11, h12⟩ := hagree c
    refine Eq.trans ?_ (Cert.KernelIdeal.Net.W15_v40 m g c).symm
    exact Cert.Same.same (StableHlo.launchContents m' c) _ _ _ _ _ _ _ _ _ _ _ _ _
      (Cert.Same.real_of_finite _ _ _ _ _ _ _ _ _ _ _ _ _ (hpre c)) h0 h1 h2 h3 h4 h5 h6 h7 h8 h9 h10 h11 h12

theorem claim : Cert.Claim := ⟨Cert.Kernel.Gen.facts, Cert.KernelIdeal.Gen.facts, Cert.ReferenceIdeal.Gen.facts, Cert.Pre_finite_x.Gen.facts,
  kernel_quiescent, kernelIdeal_quiescent, fun m g _ => kernelIdeal_quiescent m g trivial,
  referenceIdeal_quiescent, fun m g _ => referenceIdeal_quiescent m g trivial, trivial, kernelIdeal_referenceIdeal⟩

end Cert.Proof

end
